-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S4096x2x1024 : Shape := ⟨3, ![4096, 2, 1024]⟩
abbrev S1024x1024 : Shape := ⟨2, ![1024, 1024]⟩
abbrev S1024 : Shape := ⟨1, ![1024]⟩
abbrev S_ : Shape := ⟨0, ![]⟩

class Facts : Prop where
  bcast_S_S4096x2x1024 : S_.BroadcastsInDim S4096x2x1024 (![] : Fin 0 → Fin S4096x2x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x2x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S4096x2x1024 1 × IVec S1024x1024 1 × IVec S1024 1 × IVec S1024x1024 1 × IVec S1024 1 :=
  let main_v0 : FVec F S4096x2x1024 .f32 := Host.absf main_arg0
  let main_cst : FVec F S_ .f32 := constant S_ .f32 0x7F800000#32
  let main_v1 : FVec F S4096x2x1024 .f32 := broadcastInDim S4096x2x1024 ![] bcast_S_S4096x2x1024 main_cst
  let main_v2 : IVec S4096x2x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Kernel.lean ====
abbrev S4096x2x1024 : Shape := ⟨3, ![4096, 2, 1024]⟩
abbrev S1024x1024 : Shape := ⟨2, ![1024, 1024]⟩
abbrev S1024 : Shape := ⟨1, ![1024]⟩
abbrev S1x1024 : Shape := ⟨2, ![1, 1024]⟩
abbrev S16x2 : Shape := ⟨2, ![16, 2]⟩
abbrev S4096x1024 : Shape := ⟨2, ![4096, 1024]⟩
abbrev S4608x1024 : Shape := ⟨2, ![4608, 1024]⟩
abbrev S256x2x1024 : Shape := ⟨3, ![256, 2, 1024]⟩
abbrev S256x1024 : Shape := ⟨2, ![256, 1024]⟩
abbrev S16x2048 : Shape := ⟨2, ![16, 2048]⟩
abbrev S256x1x1024 : Shape := ⟨3, ![256, 1, 1024]⟩
abbrev S1x2048 : Shape := ⟨2, ![1, 2048]⟩
abbrev S127x1024 : Shape := ⟨2, ![127, 1024]⟩
abbrev S128x1024 : Shape := ⟨2, ![128, 1024]⟩
abbrev S1152x1024 : Shape := ⟨2, ![1152, 1024]⟩
abbrev S16x1024 : Shape := ⟨2, ![16, 1024]⟩
abbrev S16x16 : Shape := ⟨2, ![16, 16]⟩
abbrev S16 : Shape := ⟨1, ![16]⟩
abbrev S16x1 : Shape := ⟨2, ![16, 1]⟩
abbrev S1x16 : Shape := ⟨2, ![1, 16]⟩
abbrev S_ : Shape := ⟨0, ![]⟩
abbrev S1x1 : Shape := ⟨2, ![1, 1]⟩
abbrev S256x128 : Shape := ⟨2, ![256, 128]⟩
abbrev S256x1152 : Shape := ⟨2, ![256, 1152]⟩
abbrev S256x64 : Shape := ⟨2, ![256, 64]⟩
abbrev S256x256 : Shape := ⟨2, ![256, 256]⟩
abbrev S256 : Shape := ⟨1, ![256]⟩
abbrev S1x256 : Shape := ⟨2, ![1, 256]⟩
abbrev S512x1024 : Shape := ⟨2, ![512, 1024]⟩
abbrev S512x128 : Shape := ⟨2, ![512, 128]⟩
abbrev S512x1152 : Shape := ⟨2, ![512, 1152]⟩

abbrev nBuf : Space → Nat
  | .hbm => 20
  | .vmem => 24
  | .smem => 1
  | _ => 0

abbrev bufTy : (tb : Table) → Fin (tcTables nBuf tb) → BufTy
  | .hbm, ⟨0, _⟩ => ⟨S4096x2x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16x2, .i32⟩
  | .hbm, ⟨14, _⟩ => ⟨S4096x1024, .bf16⟩
  | .hbm, ⟨15, _⟩ => ⟨S4096x1024, .bf16⟩
  | .hbm, ⟨16, _⟩ => ⟨S4608x1024, .bf16⟩
  | .hbm, ⟨17, _⟩ => ⟨S_, .i32⟩
  | .hbm, ⟨18, _⟩ => ⟨S16x2, .i32⟩
  | .hbm, ⟨19, _⟩ => ⟨S4096x2x1024, .f32⟩
  | .local _ .vmem, ⟨0, _⟩ => ⟨S256x2x1024, .f32⟩
  | .local _ .vmem, ⟨1, _⟩ => ⟨S256x2x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1x1024, .f32⟩
  | .local _ .vmem, ⟨10, _⟩ => ⟨S16x2, .i32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S4608x1024, .bf16⟩
  | .local _ .vmem, ⟨16, _⟩ => ⟨S16x2048, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S4608x1024, .bf16⟩
  | .local _ .vmem, ⟨22, _⟩ => ⟨S256x2x1024, .f32⟩
  | .local _ .vmem, ⟨23, _⟩ => ⟨S256x2x1024, .f32⟩
  | .local _ .smem, ⟨0, _⟩ => ⟨S16x2, .i32⟩
  | _, _ => ⟨S4096x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_c : Ref sig .tc := ⟨.hbm, 17, rfl⟩
abbrev main_v5 : Ref sig .tc := ⟨.hbm, 18, rfl⟩
abbrev main_v7 : Ref sig .tc := ⟨.hbm, 19, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v13 : Index := Scalar.indexCast arg0
  let c0_7 : Index := 0#32
  ![v13.toNat, 0]
def k0_cond2 (i : grid0.Coords) : BitVec 1 :=
  let arg0 : BitVec 32 := BitVec.ofNat 32 (i 0).val
  let c15_i32 : BitVec 32 := 15#32
  let v24 : BitVec 1 := Scalar.cmpi .eq arg0 c15_i32
  let v25 : BitVec 32 := Scalar.extui v24
  let c0_i32_13 : BitVec 32 := 0#32
  let v26 : BitVec 1 := Scalar.cmpi .ne v25 c0_i32_13
  v26

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_12 : BitVec 32 := 0#32
  let v23 : BitVec 1 := Scalar.cmpi .ne v22 c0_i32_12
  v23

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x2 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4608x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![16], ![false]⟩

abbrev pre1 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let c0 : Index := 0#32
  ![v0.toNat, 0]
def k1_off2 (i : grid1.Coords) : Fin 2 → Nat :=
  let arg0 : BitVec 32 := BitVec.ofNat 32 (i 0).val
  let v0 : Index := Scalar.indexCast arg0
  let c1 : Index := 1#32
  ![v0.toNat, 1]
def cc1_transform_0 (k1_off1_inb : ∀ i : grid1.Coords, ∀ a, (k1_off1 i) a + S1x1.size a ≤ S16x2.size a) (numel1_S1x1 : S1x1.numel = 1) (pf : pre1.Contents (Elt F)) (i : grid1.Coords) : Fin 2 → Nat :=
  let arg0 : BitVec 32 := BitVec.ofNat 32 (i 0).val
  let v0 : Index := Scalar.indexCast arg0
  let c0 : Index := 0#32
  let v1 : BitVec 32 := pf.at 0 (Rect.unit (s := S16x2) ![v0.toNat, 0] S1x1.size (k1_off1_inb i)) numel1_S1x1
  let c0_i32 : BitVec 32 := 0#32
  let c0_i32_0 : BitVec 32 := 0#32
  ![v1.toNat, c0_i32.toNat]

def cc1_transform_1 (k1_off2_inb : ∀ i : grid1.Coords, ∀ a, (k1_off2 i) a + S1x1.size a ≤ S16x2.size a) (numel1_S1x1 : S1x1.numel = 1) (pf : pre1.Contents (Elt F)) (i : grid1.Coords) : Fin 2 → Nat :=
  let arg0 : BitVec 32 := BitVec.ofNat 32 (i 0).val
  let v0 : Index := Scalar.indexCast arg0
  let c1 : Index := 1#32
  let v1 : BitVec 32 := pf.at 0 (Rect.unit (s := S16x2) ![v0.toNat, 1] S1x1.size (k1_off2_inb i)) numel1_S1x1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4608x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x2x1024 : Shape := ⟨3, ![4096, 2, 1024]⟩
abbrev S1024x1024 : Shape := ⟨2, ![1024, 1024]⟩
abbrev S1024 : Shape := ⟨1, ![1024]⟩
abbrev S16x256x2x1024 : Shape := ⟨4, ![16, 256, 2, 1024]⟩
abbrev S_ : Shape := ⟨0, ![]⟩
abbrev S16x2x1024 : Shape := ⟨3, ![16, 2, 1024]⟩
abbrev S2x16x1024 : Shape := ⟨3, ![2, 16, 1024]⟩
abbrev S1x1x1024 : Shape := ⟨3, ![1, 1, 1024]⟩
abbrev S2x1024x16 : Shape := ⟨3, ![2, 1024, 16]⟩
abbrev S2x16x16 : Shape := ⟨3, ![2, 16, 16]⟩
abbrev S2x16 : Shape := ⟨2, ![2, 16]⟩
abbrev S2x16x1 : Shape := ⟨3, ![2, 16, 1]⟩
abbrev S2x1x16 : Shape := ⟨3, ![2, 1, 16]⟩
abbrev S2x16x256x1024 : Shape := ⟨4, ![2, 16, 256, 1024]⟩
abbrev S2x16x1x1 : Shape := ⟨4, ![2, 16, 1, 1]⟩
abbrev S1 : Shape := ⟨1, ![1]⟩
abbrev S1x1x1 : Shape := ⟨3, ![1, 1, 1]⟩
abbrev S2x4096x1024 : Shape := ⟨3, ![2, 4096, 1024]⟩
abbrev S2x4096x16x64 : Shape := ⟨4, ![2, 4096, 16, 64]⟩
abbrev S2x16x4096x64 : Shape := ⟨4, ![2, 16, 4096, 64]⟩
abbrev S2x16x16x256x64 : Shape := ⟨5, ![2, 16, 16, 256, 64]⟩
abbrev S2x16x16x256x256 : Shape := ⟨5, ![2, 16, 16, 256, 256]⟩
abbrev S2x16x16x256 : Shape := ⟨4, ![2, 16, 16, 256]⟩
abbrev S2x16x16x256x1 : Shape := ⟨5, ![2, 16, 16, 256, 1]⟩

abbrev nBuf : Space → Nat
  | .hbm => 250
  | .vmem => 0
  | .smem => 0
  | _ => 0

abbrev hbmTy0_0 (i : Nat) : BufTy := match i % 128 with
  | 0 => ⟨S4096x2x1024, .f32⟩
  | 1 => ⟨S1024x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S16x256x2x1024, .f32⟩
  | 10 => ⟨S_, .f32⟩
  | 11 => ⟨S16x2x1024, .f32⟩
  | 12 => ⟨S_, .f32⟩
  | 13 => ⟨S16x2x1024, .f32⟩
  | 14 => ⟨S16x2x1024, .f32⟩
  | 15 => ⟨S2x16x1024, .f32⟩
  | 16 => ⟨S1024x1024, .f32⟩
  | 17 => ⟨S2x16x1024, .f32⟩
  | 18 => ⟨S1x1x1024, .f32⟩
  | 19 => ⟨S2x16x1024, .f32⟩
  | 20 => ⟨S2x16x1024, .f32⟩
  | 21 => ⟨S1024x1024, .f32⟩
  | 22 => ⟨S2x16x1024, .f32⟩
  | 23 => ⟨S1x1x1024, .f32⟩
  | 24 => ⟨S2x16x1024, .f32⟩
  | 25 => ⟨S2x16x1024, .f32⟩
  | 26 => ⟨S2x1024x16, .f32⟩
  | 27 => ⟨S2x16x16, .f32⟩
  | 28 => ⟨S_, .f32⟩
  | 29 => ⟨S2x16x16, .f32⟩
  | 30 => ⟨S2x16x16, .f32⟩
  | 31 => ⟨S_, .f32⟩
  | 32 => ⟨S2x16, .f32⟩
  | 33 => ⟨S2x16x1, .f32⟩
  | 34 => ⟨S2x16x16, .f32⟩
  | 35 => ⟨S2x16x16, .f32⟩
  | 36 => ⟨S2x16x16, .f32⟩
  | 37 => ⟨S_, .f32⟩
  | 38 => ⟨S2x16, .f32⟩
  | 39 => ⟨S2x16x1, .f32⟩
  | 40 => ⟨S2x16x1, .f32⟩
  | 41 => ⟨S2x16x1, .f32⟩
  | 42 => ⟨S2x16x16, .f32⟩
  | 43 => ⟨S2x16x16, .f32⟩
  | 44 => ⟨S_, .f32⟩
  | 45 => ⟨S2x16, .f32⟩
  | 46 => ⟨S2x1x16, .f32⟩
  | 47 => ⟨S2x16x16, .f32⟩
  | 48 => ⟨S2x16x16, .f32⟩
  | 49 => ⟨S2x16x16, .f32⟩
  | 50 => ⟨S_, .f32⟩
  | 51 => ⟨S2x16, .f32⟩
  | 52 => ⟨S2x1x16, .f32⟩
  | 53 => ⟨S2x1x16, .f32⟩
  | 54 => ⟨S2x1x16, .f32⟩
  | 55 => ⟨S2x16x16, .f32⟩
  | 56 => ⟨S2x16x16, .f32⟩
  | 57 => ⟨S_, .f32⟩
  | 58 => ⟨S2x16, .f32⟩
  | 59 => ⟨S2x16x1, .f32⟩
  | 60 => ⟨S2x16x16, .f32⟩
  | 61 => ⟨S2x16x16, .f32⟩
  | 62 => ⟨S2x16x16, .f32⟩
  | 63 => ⟨S_, .f32⟩
  | 64 => ⟨S2x16, .f32⟩
  | 65 => ⟨S2x16x1, .f32⟩
  | 66 => ⟨S2x16x1, .f32⟩
  | 67 => ⟨S2x16x1, .f32⟩
  | 68 => ⟨S2x16x16, .f32⟩
  | 69 => ⟨S2x16x16, .f32⟩
  | 70 => ⟨S_, .f32⟩
  | 71 => ⟨S2x16, .f32⟩
  | 72 => ⟨S2x1x16, .f32⟩
  | 73 => ⟨S2x16x16, .f32⟩
  | 74 => ⟨S2x16x16, .f32⟩
  | 75 => ⟨S2x16x16, .f32⟩
  | 76 => ⟨S_, .f32⟩
  | 77 => ⟨S2x16, .f32⟩
  | 78 => ⟨S2x1x16, .f32⟩
  | 79 => ⟨S2x1x16, .f32⟩
  | 80 => ⟨S2x1x16, .f32⟩
  | 81 => ⟨S2x16x16, .f32⟩
  | 82 => ⟨S2x16x16, .f32⟩
  | 83 => ⟨S_, .f32⟩
  | 84 => ⟨S2x16, .f32⟩
  | 85 => ⟨S2x16x1, .f32⟩
  | 86 => ⟨S2x16x16, .f32⟩
  | 87 => ⟨S2x16x16, .f32⟩
  | 88 => ⟨S2x16x16, .f32⟩
  | 89 => ⟨S_, .f32⟩
  | 90 => ⟨S2x16, .f32⟩
  | 91 => ⟨S2x16x1, .f32⟩
  | 92 => ⟨S2x16x1, .f32⟩
  | 93 => ⟨S2x16x1, .f32⟩
  | 94 => ⟨S2x16x16, .f32⟩
  | 95 => ⟨S2x16x16, .f32⟩
  | 96 => ⟨S_, .f32⟩
  | 97 => ⟨S2x16, .f32⟩
  | 98 => ⟨S2x1x16, .f32⟩
  | 99 => ⟨S2x16x16, .f32⟩
  | 100 => ⟨S2x16x16, .f32⟩
  | 101 => ⟨S2x16x16, .f32⟩
  | 102 => ⟨S_, .f32⟩
  | 103 => ⟨S2x16, .f32⟩
  | 104 => ⟨S2x1x16, .f32⟩
  | 105 => ⟨S2x1x16, .f32⟩
  | 106 => ⟨S2x1x16, .f32⟩
  | 107 => ⟨S2x16x16, .f32⟩
  | 108 => ⟨S2x16x16, .f32⟩
  | 109 => ⟨S_, .f32⟩
  | 110 => ⟨S2x16, .f32⟩
  | 111 => ⟨S2x16x1, .f32⟩
  | 112 => ⟨S2x16x16, .f32⟩
  | 113 => ⟨S2x16x16, .f32⟩
  | 114 => ⟨S2x16x16, .f32⟩
  | 115 => ⟨S_, .f32⟩
  | 116 => ⟨S2x16, .f32⟩
  | 117 => ⟨S2x16x1, .f32⟩
  | 118 => ⟨S2x16x1, .f32⟩
  | 119 => ⟨S2x16x1, .f32⟩
  | 120 => ⟨S2x16x16, .f32⟩
  | 121 => ⟨S2x16x16, .f32⟩
  | 122 => ⟨S_, .f32⟩
  | 123 => ⟨S2x16, .f32⟩
  | 124 => ⟨S2x1x16, .f32⟩
  | 125 => ⟨S2x16x16, .f32⟩
  | 126 => ⟨S2x16x16, .f32⟩
  | 127 => ⟨S2x16x16, .f32⟩
  | _ => ⟨S4096x2x1024, .f32⟩

abbrev hbmTy0_1 (i : Nat) : BufTy := match i % 128 with
  | 0 => ⟨S_, .f32⟩
  | 1 => ⟨S2x16, .f32⟩
  | 2 => ⟨S2x1x16, .f32⟩
  | 3 => ⟨S2x1x16, .f32⟩
  | 4 => ⟨S2x1x16, .f32⟩
  | 5 => ⟨S2x16x16, .f32⟩
  | 6 => ⟨S2x16x16, .f32⟩
  | 7 => ⟨S_, .f32⟩
  | 8 => ⟨S2x16, .f32⟩
  | 9 => ⟨S2x16x1, .f32⟩
  | 10 => ⟨S2x16x16, .f32⟩
  | 11 => ⟨S2x16x16, .f32⟩
  | 12 => ⟨S2x16x16, .f32⟩
  | 13 => ⟨S_, .f32⟩
  | 14 => ⟨S2x16, .f32⟩
  | 15 => ⟨S2x16x1, .f32⟩
  | 16 => ⟨S2x16x1, .f32⟩
  | 17 => ⟨S2x16x1, .f32⟩
  | 18 => ⟨S2x16x16, .f32⟩
  | 19 => ⟨S2x16x16, .f32⟩
  | 20 => ⟨S_, .f32⟩
  | 21 => ⟨S2x16, .f32⟩
  | 22 => ⟨S2x1x16, .f32⟩
  | 23 => ⟨S2x16x16, .f32⟩
  | 24 => ⟨S2x16x16, .f32⟩
  | 25 => ⟨S2x16x16, .f32⟩
  | 26 => ⟨S_, .f32⟩
  | 27 => ⟨S2x16, .f32⟩
  | 28 => ⟨S2x1x16, .f32⟩
  | 29 => ⟨S2x1x16, .f32⟩
  | 30 => ⟨S2x1x16, .f32⟩
  | 31 => ⟨S2x16x16, .f32⟩
  | 32 => ⟨S2x16x16, .f32⟩
  | 33 => ⟨S2x16x16, .f32⟩
  | 34 => ⟨S2x16x16, .i32⟩
  | 35 => ⟨S_, .f32⟩
  | 36 => ⟨S_, .i32⟩
  | 37 => ⟨S2x16, .f32⟩
  | 38 => ⟨S2x16, .i32⟩
  | 39 => ⟨S16x256x2x1024, .f32⟩
  | 40 => ⟨S2x16x256x1024, .f32⟩
  | 41 => ⟨S2x16x1x1, .i32⟩
  | 42 => ⟨S_, .i32⟩
  | 43 => ⟨S2x16x1x1, .i32⟩
  | 44 => ⟨S2x16x1x1, .i1⟩
  | 45 => ⟨S_, .i32⟩
  | 46 => ⟨S2x16x1x1, .i32⟩
  | 47 => ⟨S2x16x1x1, .i32⟩
  | 48 => ⟨S2x16x1x1, .i32⟩
  | 49 => ⟨S2x16x1, .i32⟩
  | 50 => ⟨S1, .i32⟩
  | 51 => ⟨S_, .i32⟩
  | 52 => ⟨S2x16x1, .i32⟩
  | 53 => ⟨S2x16x1, .i1⟩
  | 54 => ⟨S1x1x1, .i32⟩
  | 55 => ⟨S2x16x1, .i32⟩
  | 56 => ⟨S2x16x1, .i1⟩
  | 57 => ⟨S2x16x1, .i1⟩
  | 58 => ⟨S_, .i1⟩
  | 59 => ⟨S2x16, .i1⟩
  | 60 => ⟨S2x16x256x1024, .f32⟩
  | 61 => ⟨S2x16x256x1024, .i1⟩
  | 62 => ⟨S_, .f32⟩
  | 63 => ⟨S2x16x256x1024, .f32⟩
  | 64 => ⟨S2x16x256x1024, .f32⟩
  | 65 => ⟨S16x256x2x1024, .f32⟩
  | 66 => ⟨S4096x2x1024, .f32⟩
  | 67 => ⟨S1024x1024, .f32⟩
  | 68 => ⟨S4096x2x1024, .f32⟩
  | 69 => ⟨S1x1x1024, .f32⟩
  | 70 => ⟨S4096x2x1024, .f32⟩
  | 71 => ⟨S4096x2x1024, .f32⟩
  | 72 => ⟨S1024x1024, .f32⟩
  | 73 => ⟨S4096x2x1024, .f32⟩
  | 74 => ⟨S1x1x1024, .f32⟩
  | 75 => ⟨S4096x2x1024, .f32⟩
  | 76 => ⟨S4096x2x1024, .f32⟩
  | 77 => ⟨S1024x1024, .f32⟩
  | 78 => ⟨S4096x2x1024, .f32⟩
  | 79 => ⟨S1x1x1024, .f32⟩
  | 80 => ⟨S4096x2x1024, .f32⟩
  | 81 => ⟨S4096x2x1024, .f32⟩
  | 82 => ⟨S2x4096x1024, .f32⟩
  | 83 => ⟨S2x4096x16x64, .f32⟩
  | 84 => ⟨S2x16x4096x64, .f32⟩
  | 85 => ⟨S2x16x16x256x64, .f32⟩
  | 86 => ⟨S2x4096x1024, .f32⟩
  | 87 => ⟨S2x4096x16x64, .f32⟩
  | 88 => ⟨S2x16x4096x64, .f32⟩
  | 89 => ⟨S2x16x16x256x64, .f32⟩
  | 90 => ⟨S2x4096x1024, .f32⟩
  | 91 => ⟨S2x4096x16x64, .f32⟩
  | 92 => ⟨S2x16x4096x64, .f32⟩
  | 93 => ⟨S2x16x16x256x64, .f32⟩
  | 94 => ⟨S2x16x16x256x256, .f32⟩
  | 95 => ⟨S_, .f32⟩
  | 96 => ⟨S2x16x16x256x256, .f32⟩
  | 97 => ⟨S2x16x16x256x256, .f32⟩
  | 98 => ⟨S_, .f32⟩
  | 99 => ⟨S2x16x16x256, .f32⟩
  | 100 => ⟨S_, .f32⟩
  | 101 => ⟨S2x16x16x256, .f32⟩
  | 102 => ⟨S2x16x16x256, .f32⟩
  | 103 => ⟨S2x16x16x256x1, .f32⟩
  | 104 => ⟨S2x16x16x256x256, .f32⟩
  | 105 => ⟨S2x16x16x256x256, .f32⟩
  | 106 => ⟨S2x16x16x256x256, .f32⟩
  | 107 => ⟨S_, .f32⟩
  | 108 => ⟨S2x16x16x256, .f32⟩
  | 109 => ⟨S2x16x16x256x1, .f32⟩
  | 110 => ⟨S2x16x16x256x256, .f32⟩
  | 111 => ⟨S2x16x16x256x256, .f32⟩
  | 112 => ⟨S2x16x16x256x64, .f32⟩
  | 113 => ⟨S2x16x4096x64, .f32⟩
  | 114 => ⟨S2x4096x16x64, .f32⟩
  | 115 => ⟨S2x4096x1024, .f32⟩
  | 116 => ⟨S4096x2x1024, .f32⟩
  | 117 => ⟨S1024x1024, .f32⟩
  | 118 => ⟨S4096x2x1024, .f32⟩
  | 119 => ⟨S1x1x1024, .f32⟩
  | 120 => ⟨S4096x2x1024, .f32⟩
  | 121 => ⟨S4096x2x1024, .f32⟩
  | _ => ⟨S4096x2x1024, .f32⟩

abbrev hbmTy (i : Nat) : BufTy := match i / 128 with
  | 0 => hbmTy0_0 i
  | 1 => hbmTy0_1 i
  | _ => ⟨S4096x2x1024, .f32⟩

abbrev bufTy : (tb : Table) → Fin (tcTables nBuf tb) → BufTy
  | .hbm, ⟨i, _⟩ => hbmTy i
  | _, _ => ⟨S4096x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_15 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_16 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_17 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_18 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_19 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_20 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_21 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_call0_v0 : Ref sig .tc := ⟨.hbm, 162, rfl⟩
abbrev main_call0_cst : Ref sig .tc := ⟨.hbm, 163, rfl⟩
abbrev main_call0_c : Ref sig .tc := ⟨.hbm, 164, rfl⟩
abbrev main_call0_v1_0 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_call1_c : Ref sig .tc := ⟨.hbm, 170, rfl⟩
abbrev main_call1_v0 : Ref sig .tc := ⟨.hbm, 171, rfl⟩
abbrev main_call1_v1 : Ref sig .tc := ⟨.hbm, 172, rfl⟩
abbrev main_call1_c_0 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_call1_v5 : Ref sig .tc := ⟨.hbm, 177, rfl⟩
abbrev main_call1_c_1 : Ref sig .tc := ⟨.hbm, 178, rfl⟩
abbrev main_call1_c_2 : Ref sig .tc := ⟨.hbm, 179, rfl⟩
abbrev main_call1_v6 : Ref sig .tc := ⟨.hbm, 180, rfl⟩
abbrev main_call1_v7 : Ref sig .tc := ⟨.hbm, 181, rfl⟩
abbrev main_call1_v8 : Ref sig .tc := ⟨.hbm, 182, rfl⟩
abbrev main_call1_v9 : Ref sig .tc := ⟨.hbm, 183, rfl⟩
abbrev main_call1_v10 : Ref sig .tc := ⟨.hbm, 184, rfl⟩
abbrev main_call1_v11 : Ref sig .tc := ⟨.hbm, 185, rfl⟩
abbrev main_call1_c_3 : Ref sig .tc := ⟨.hbm, 186, rfl⟩
abbrev main_call1_v12 : Ref sig .tc := ⟨.hbm, 187, rfl⟩
abbrev main_call1_v13 : Ref sig .tc := ⟨.hbm, 188, rfl⟩
abbrev main_call1_v14 : Ref sig .tc := ⟨.hbm, 189, rfl⟩
abbrev main_call1_cst : Ref sig .tc := ⟨.hbm, 190, rfl⟩
abbrev main_call1_v15 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_22 : Ref sig .tc := ⟨.hbm, 223, rfl⟩
abbrev main_v165 : Ref sig .tc := ⟨.hbm, 224, rfl⟩
abbrev main_v166 : Ref sig .tc := ⟨.hbm, 225, rfl⟩
abbrev main_cst_23 : Ref sig .tc := ⟨.hbm, 226, rfl⟩
abbrev main_v167 : Ref sig .tc := ⟨.hbm, 227, rfl⟩
abbrev main_cst_24 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_25 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩

abbrev nD : Nat := 1
abbrev τ : Topo := Topo.v7x

variable {F : FTy → Type} [FloatOps F]
-- ==== Proof.KernelIdeal.Perm.lean ====
/- What the permutation call computes, as functions of what it loads: a block's mean rows, the two halves of a block in
   the narrow type, the packed weights, and — from the sixteen mean rows — the permutation: scaled products of the
   projected means, five rounds of row and column normalisation, and each row's first greatest entry. Stated at any
   float type; nothing here is about how the body runs. -/
module

public import proofs.«01_k».proof.Proof.Gen.KernelIdeal.Skeleton
public import Idealize.ShloMosaic.Lib.Pipeline.FrameBody
public import Idealize.ShloMosaic.Lib.Pipeline.Value

@[expose] public section

noncomputable section

namespace Cert.KernelIdeal.Perm

open Cert.KernelIdeal Cert.KernelIdeal.Gen Idealize.ShloMosaic

variable {F : FTy → Type} [FloatOps F]

/-- One batch element's rows of a block, as a matrix. -/
def half0 (x : Vec F S256x2x1024 .f32) : FVec F S256x1024 .f32 :=
  shapeCast S256x1024 (View.ld x (Rect.unit (s := S256x2x1024) ![0, 0, 0] S256x1x1024.size inb_S256x2x1024_S256x1x1024_0_0_0)) shapeCasts_S256x1x1024_S256x1024
@[inherit_doc half0] def half1 (x : Vec F S256x2x1024 .f32) : FVec F S256x1024 .f32 :=
  shapeCast S256x1024 (View.ld x (Rect.unit (s := S256x2x1024) ![0, 1, 0] S256x1x1024.size inb_S256x2x1024_S256x1x1024_0_1_0)) shapeCasts_S256x1x1024_S256x1024

/-- The mean of a block's 256 rows. -/
def meanOf (x : FVec F S256x1024 .f32) : FVec F S1x1024 .f32 :=
  divf (shapeCast S1x1024 (multiReduction .add [0] S1024 x 0x00000000#32 reduces_S256x1024_S1024 (.inl rfl) rfl) shapeCasts_S1024_S1x1024)
    (broadcast S1x1024 (Scalar.ofBits .f32 0x43800000#32 : F .f32))

/-- Both batch elements' means, side by side. -/
def meanRow (x : Vec F S256x2x1024 .f32) : FVec F S1x2048 .f32 :=
  shapeCast S1x2048 (concatenate S1x2048 1 [⟨S1x1024, meanOf (half0 x)⟩, ⟨S1x1024, meanOf (half1 x)⟩]
    concatenates_S1x1024_S1x1024_S1x2048_d1) shapeCasts_S1x2048_S1x2048

/-- The two halves of a block in the narrow type. -/
def rows0 (x : Vec F S256x2x1024 .f32) : FVec F S256x1024 .bf16 := truncf .bf16 (half0 x) bitsLt_bf16_f32
@[inherit_doc rows0] def rows1 (x : Vec F S256x2x1024 .f32) : FVec F S256x1024 .bf16 := truncf .bf16 (half1 x) bitsLt_bf16_f32

/-- A weight transposed, its bias row under it and 127 rows of zeros under that. -/
def pack (w : FVec F S1024x1024 .f32) (b : FVec F S1x1024 .f32) : FVec F S1152x1024 .bf16 :=
  concatenate S1152x1024 0 [⟨S1024x1024, truncf .bf16 (transpose S1024x1024 [1, 0] w transposes_S1024x1024_p1_0_S1024x1024) bitsLt_bf16_f32⟩,
    ⟨S128x1024, concatenate S128x1024 0 [⟨S1x1024, truncf .bf16 b bitsLt_bf16_f32⟩,
      ⟨S127x1024, broadcast S127x1024 (Scalar.ofBits .bf16 0x0000#16 : F .bf16)⟩] concatenates_S1x1024_S127x1024_S128x1024_d0⟩]
    concatenates_S1024x1024_S128x1024_S1152x1024_d0

/-- The four packed slices: query (scaled by an eighth), key, value, output. -/
def packQ (w : Vec F S1024x1024 .f32) (b : Vec F S1x1024 .f32) : FVec F S1152x1024 .bf16 :=
  pack (mulf w (broadcast S1024x1024 (Scalar.ofBits .f32 0x3E000000#32 : F .f32)))
    (mulf (shapeCast S1x1024 b shapeCasts_S1x1024_S1x1024) (broadcast S1x1024 (Scalar.ofBits .f32 0x3E000000#32 : F .f32)))
@[inherit_doc packQ] def packP (w : Vec F S1024x1024 .f32) (b : Vec F S1x1024 .f32) : FVec F S1152x1024 .bf16 :=
  pack w (shapeCast S1x1024 b shapeCasts_S1x1024_S1x1024)

/-- The packed weights, all four slices. -/
def packed (Wq : Vec F S1024x1024 .f32) (bq : Vec F S1x1024 .f32) (Wk : Vec F S1024x1024 .f32) (bk : Vec F S1x1024 .f32)
    (Wv : Vec F S1024x1024 .f32) (bv : Vec F S1x1024 .f32) (Wo : Vec F S1024x1024 .f32) (bo : Vec F S1x1024 .f32) : Vec F S4608x1024 .bf16 :=
  View.canon [⟨Rect.unit (s := S4608x1024) ![3456, 0] S1152x1024.size inb_S4608x1024_S1152x1024_3456_0, packP Wo bo⟩,
    ⟨Rect.unit (s := S4608x1024) ![2304, 0] S1152x1024.size inb_S4608x1024_S1152x1024_2304_0, packP Wv bv⟩,
    ⟨Rect.unit (s := S4608x1024) ![1152, 0] S1152x1024.size inb_S4608x1024_S1152x1024_1152_0, packP Wk bk⟩,
    ⟨Rect.unit (s := S4608x1024) ![0, 0] S1152x1024.size inb_S4608x1024_S1152x1024_0_0, packQ Wq bq⟩]

/-- Mean rows projected by a weight. -/
def meanProj (xm : FVec F S16x1024 .f32) (w : Vec F S1024x1024 .f32) (b : Vec F S1x1024 .f32) : FVec F S16x1024 .f32 :=
  addf (matmul dot_S16x1024_S1024x1024_S16x1024_1_1_0_0_n_n none xm w (constant S16x1024 .f32 0x00000000#32))
    (broadcastTo S16x1024 (shapeCast S1x1024 b shapeCasts_S1x1024_S1x1024) broadcasts_S1x1024_S16x1024)

/-- The blocks' scaled products. -/
def logits (xm : FVec F S16x1024 .f32) (Wq : Vec F S1024x1024 .f32) (bq : Vec F S1x1024 .f32) (Wk : Vec F S1024x1024 .f32)
    (bk : Vec F S1x1024 .f32) : FVec F S16x16 .f32 :=
  mulf (matmul dot_S16x1024_S16x1024_S16x16_1_1_0_0_n_n none (meanProj xm Wq bq) (meanProj xm Wk bk) (constant S16x16 .f32 0x00000000#32))
    (broadcast S16x16 (Scalar.ofBits .f32 0x3D000000#32 : F .f32))

/-- Each row's greatest entry, and its greatest entry plus the logarithm of the sum of the exponentials of what remains. -/
def rowMax (la : FVec F S16x16 .f32) : FVec F S16x1 .f32 :=
  shapeCast S16x1 (multiReduction .maximumf [1] S16 la 0xFF800000#32 reduces_S16x16_S16 (.inl rfl) rfl) shapeCasts_S16_S16x1
@[inherit_doc rowMax] def rowLse (la : FVec F S16x16 .f32) : FVec F S16x1 .f32 :=
  addf (rowMax la) (log (shapeCast S16x1 (multiReduction .add [1] S16
    (exp (subf la (broadcastTo S16x16 (rowMax la) broadcasts_S16x1_S16x16))) 0x00000000#32 reduces_S16x16_S16 (.inl rfl) rfl) shapeCasts_S16_S16x1))

/-- Every row less the logarithm of the sum of its exponentials. -/
def rowStep (la : FVec F S16x16 .f32) : FVec F S16x16 .f32 :=
  subf la (broadcastTo S16x16 (rowLse la) broadcasts_S16x1_S16x16)

/-- The same of every column. -/
def colMax (la : FVec F S16x16 .f32) : FVec F S1x16 .f32 :=
  shapeCast S1x16 (multiReduction .maximumf [0] S16 la 0xFF800000#32 reduces_S16x16_S16_2 (.inl rfl) rfl) shapeCasts_S16_S1x16
@[inherit_doc colMax] def colLse (la : FVec F S16x16 .f32) : FVec F S1x16 .f32 :=
  addf (colMax la) (log (shapeCast S1x16 (multiReduction .add [0] S16
    (exp (subf la (broadcastTo S16x16 (colMax la) broadcasts_S1x16_S16x16))) 0x00000000#32 reduces_S16x16_S16_2 (.inl rfl) rfl) shapeCasts_S16_S1x16))
@[inherit_doc colMax] def colStep (la : FVec F S16x16 .f32) : FVec F S16x16 .f32 :=
  subf la (broadcastTo S16x16 (colLse la) broadcasts_S1x16_S16x16)

/-- One round: rows, then columns. -/
def step (la : FVec F S16x16 .f32) : FVec F S16x16 .f32 := colStep (rowStep la)

/-- Of each row the first index whose exponential is at least the row's greatest; sixteen where there is none. -/
def pick (la : FVec F S16x16 .f32) : IVec S16x1 32 :=
  let p := exp la
  shapeCast S16x1 (multiReductionI .minsi [1] S16
    (select (cmpf .oge p (broadcastTo S16x16 (shapeCast S16x1
      (multiReduction .maximumf [1] S16 p 0xFF800000#32 reduces_S16x16_S16 (.inl rfl) rfl) shapeCasts_S16_S16x1) broadcasts_S16x1_S16x16))
      (iota .tc S16x16 32 [1] iota_S16x16_d1_w32) (broadcast S16x16 16#32)) 2147483647#32 reduces_S16x16_S16 rfl) shapeCasts_S16_S16x1

/-- One batch element's column of the permutation, from its mean rows. -/
def column (xm : FVec F S16x1024 .f32) (Wq : Vec F S1024x1024 .f32) (bq : Vec F S1x1024 .f32) (Wk : Vec F S1024x1024 .f32)
    (bk : Vec F S1x1024 .f32) : IVec S16x1 32 :=
  pick (step (step (step (step (step (logits xm Wq bq Wk bk))))))

/-- Both columns, from the sixteen rows of means. -/
def perm (xs : Vec F S16x2048 .f32) (Wq : Vec F S1024x1024 .f32) (bq : Vec F S1x1024 .f32) (Wk : Vec F S1024x1024 .f32)
    (bk : Vec F S1x1024 .f32) : IVec S16x2 32 :=
  concatenate S16x2 1
    [⟨S16x1, column (View.ld xs (Rect.unit (s := S16x2048) ![0, 0] S16x1024.size inb_S16x2048_S16x1024_0_0)) Wq bq Wk bk⟩,
     ⟨S16x1, column (View.ld xs (Rect.unit (s := S16x2048) ![0, 1024] S16x1024.size inb_S16x2048_S16x1024_0_1024)) Wq bq Wk bk⟩]
    concatenates_S16x1_S16x1_S16x2_d1

/-- The rows of means with one more written. -/
def setRow (i : grid0.Coords) (xs : Vec F S16x2048 .f32) (r : FVec F S1x2048 .f32) : Vec F S16x2048 .f32 :=
  (Rect.unit (s := S16x2048) (k0_off1 i) S1x2048.size (k0_off1_inb i)).overlay xs r

/-! ## The body's own groupings of the same operations -/

theorem pay11_eq (xm Wq bq Wk bk) : k0_pay11 (F := F) xm Wq bq Wk bk = step (logits xm Wq bq Wk bk) := rfl
theorem pay12_eq (xm Wq bq Wk bk) : k0_pay12 (F := F) xm Wq bq Wk bk = rowMax (step (logits xm Wq bq Wk bk)) := rfl
theorem pay13_eq (xm Wq bq Wk bk) : k0_pay13 (F := F) xm Wq bq Wk bk = broadcastTo S16x16 (rowMax (step (logits xm Wq bq Wk bk))) broadcasts_S16x1_S16x16 := rfl
theorem pay14_eq (la) : k0_pay14 (F := F) la (rowMax la) (broadcastTo S16x16 (rowMax la) broadcasts_S16x1_S16x16) = step (step la) := rfl
theorem pay15_eq (la) : k0_pay15 (F := F) la (rowMax la) (broadcastTo S16x16 (rowMax la) broadcasts_S16x1_S16x16)
    = broadcastTo S16x16 (rowLse (step (step la))) broadcasts_S16x1_S16x16 := rfl
theorem pay16_eq (la) : k0_pay16 (F := F) la (broadcastTo S16x16 (rowLse la) broadcasts_S16x1_S16x16) = pick (step (step la)) := rfl
theorem pay17_eq (xm Wq bq Wk bk) : k0_pay17 (F := F) xm Wq (constant S16x1024 .f32 0x00000000#32) bq Wk bk = step (logits xm Wq bq Wk bk) := rfl
theorem pay18_eq (xm Wq bq Wk bk) : k0_pay18 (F := F) xm Wq (constant S16x1024 .f32 0x00000000#32) bq Wk bk = rowLse (step (logits xm Wq bq Wk bk)) := rfl
theorem pay19_eq (la) : k0_pay19 (F := F) la (rowLse la) = rowStep (step (step la)) := rfl
theorem pay20_eq (la) : k0_pay20 (F := F) la (rowLse la) = colMax (rowStep (step (step la))) := rfl
theorem pay21_eq (la) : k0_pay21 (F := F) la (rowLse la)
    = exp (subf (rowStep (step (step la))) (broadcastTo S16x16 (colMax (rowStep (step (step la)))) broadcasts_S1x16_S16x16)) := rfl
theorem pay7_eq (p : IVec S16x1 32) (la) :
    k0_pay7 (F := F) p la (colMax la) (exp (subf la (broadcastTo S16x16 (colMax la) broadcasts_S1x16_S16x16)))
      = concatenate S16x2 1 [⟨S16x1, p⟩, ⟨S16x1, pick (step (colStep la))⟩] concatenates_S16x1_S16x1_S16x2_d1 := rfl

/-- Reading the scratch after its row is stored. -/
theorem read_setRow (i : grid0.Coords) {m : Memref sig .tc .vmem S16x2048 .f32} (f : m.view.ty.Contents (Elt F)) (r : FVec F S1x2048 .f32) :
    View.read (Elt F) m.view (m.view.writes (Elt F) f [⟨Rect.unit (s := S16x2048) (k0_off1 i) S1x2048.size (k0_off1_inb i), r⟩])
      = setRow i (View.read (Elt F) m.view f) r := by
  funext y
  unfold setRow
  by_cases h : y ∈ Finset.univ.map (Rect.unit (s := S16x2048) (k0_off1 i) S1x2048.size (k0_off1_inb i)).emb
  · obtain ⟨z, -, rfl⟩ := Finset.mem_map.mp h
    rw [Rect.overlay_emb, View.read_writes_cons_emb]
  · rw [Rect.overlay_of_not_mem _ _ _ (by rwa [← Rect.map_emb_univ])]
    exact View.read_slice_write_of_not_mem _ _ _ _ h

end Cert.KernelIdeal.Perm

end
-- ==== Proof.KernelIdeal.Run0.lean ====
/- The permutation call's body, run once at any grid point: the block's mean row goes into the scratch, its two halves
   into their outputs; at the first point the packed weights are stored, at the last the permutation read off the
   scratch; everything else stays as it was. -/
module

public import proofs.«01_k».proof.Proof.KernelIdeal.Perm
public import proofs.«01_k».proof.Proof.Gen.KernelIdeal.Launch
public import Idealize.ShloMosaic.Lib.Pipeline.FrameBody
public import Idealize.ShloMosaic.Lib.Pipeline.Frame
public import Idealize.ShloMosaic.Lib.Tactic

@[expose] public section

set_option maxRecDepth 65536

noncomputable section

namespace Cert.KernelIdeal.Perm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole-buffer load reads the contents. -/
theorem ld_w (y : Vec F S1024x1024 .f32) : View.ld y (Rect.unit (s := S1024x1024) ![0, 0] S1024x1024.size inb_S1024x1024_S1024x1024_0_0) = y :=
  View.ld_unit_zero (by decide +kernel) _ _
@[inherit_doc ld_w] theorem ld_b (y : Vec F S1x1024 .f32) : View.ld y (Rect.unit (s := S1x1024) ![0, 0] S1x1024.size inb_S1x1024_S1x1024_0_0) = y :=
  View.ld_unit_zero (by decide +kernel) _ _

set_option maxHeartbeats 2000000 in
/-- The body at the first point. -/
theorem run_first (c : Dev nD) (i : grid0.Coords) (arg1 : Memref sig .tc .vmem S256x2x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S16x2 .i32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S4608x1024 .bf16) (harg13 : arg13.IsWhole) (arg14 : Memref sig .tc .vmem S16x2048 .f32) (harg14 : arg14.IsWhole)
    (hc0 : k0_cond1 i = 1#1) (hc1 : ¬k0_cond2 i = 1#1)
     (x : Vec F S256x2x1024 .f32) (Wq : Vec F S1024x1024 .f32) (bq : Vec F S1x1024 .f32) (Wk : Vec F S1024x1024 .f32) (bk : Vec F S1x1024 .f32) (Wv : Vec F S1024x1024 .f32) (bv : Vec F S1x1024 .f32) (Wo : Vec F S1024x1024 .f32) (bo : Vec F S1x1024 .f32) (d10 : Vec F S16x2 .i32) (d13 : Vec F S4608x1024 .bf16) (xs : Vec F S16x2048 .f32) (E : Set ℕ) (K : PUnit → sProp 𝕄) :
    iprop(owns (c : Thread nD τ) arg1 fullShare x
      ∗ owns (c : Thread nD τ) arg2 fullShare Wq
      ∗ owns (c : Thread nD τ) arg3 fullShare bq
      ∗ owns (c : Thread nD τ) arg4 fullShare Wk
      ∗ owns (c : Thread nD τ) arg5 fullShare bk
      ∗ owns (c : Thread nD τ) arg6 fullShare Wv
      ∗ owns (c : Thread nD τ) arg7 fullShare bv
      ∗ owns (c : Thread nD τ) arg8 fullShare Wo
      ∗ owns (c : Thread nD τ) arg9 fullShare bo
      ∗ owns (c : Thread nD τ) arg10 fullShare d10 ∗ (∃ d, owns (c : Thread nD τ) arg11 fullShare d) ∗ (∃ d, owns (c : Thread nD τ) arg12 fullShare d)
      ∗ owns (c : Thread nD τ) arg13 fullShare d13 ∗ owns (c : Thread nD τ) arg14 fullShare xs
      ∗ (iprop(owns (c : Thread nD τ) arg1 fullShare x
      ∗ owns (c : Thread nD τ) arg2 fullShare Wq
      ∗ owns (c : Thread nD τ) arg3 fullShare bq
      ∗ owns (c : Thread nD τ) arg4 fullShare Wk
      ∗ owns (c : Thread nD τ) arg5 fullShare bk
      ∗ owns (c : Thread nD τ) arg6 fullShare Wv
      ∗ owns (c : Thread nD τ) arg7 fullShare bv
      ∗ owns (c : Thread nD τ) arg8 fullShare Wo
      ∗ owns (c : Thread nD τ) arg9 fullShare bo
          ∗ owns (c : Thread nD τ) arg10 fullShare (d10) ∗ owns (c : Thread nD τ) arg11 fullShare (rows0 x) ∗ owns (c : Thread nD τ) arg12 fullShare (rows1 x)
          ∗ owns (c : Thread nD τ) arg13 fullShare (packed Wq bq Wk bk Wv bv Wo bo) ∗ owns (c : Thread nD τ) arg14 fullShare (setRow i xs (meanRow x))) -∗ K ⟨⟩))
      ⊢ wp frame (wpE (defs₀ (F := F)) Variants.none c none) E (cc0__perm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__perm_kernel_eq_skeleton]; unfold cc0__perm_kernel_skel
  simp only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
  subst hf1 hf2 hf3 hf4 hf5 hf6 hf7 hf8 hf9 hf10 hf13 hf14
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr; swap; · iexact H11
    ipureintro
    refine (View.read_writes_eq_canon _ _ _ (fun y => View.cover_of_tiled [⟨_, _⟩] S256x1024.size (by rfl) y)).trans ?_
    refine (View.canon_unit_zero (by decide +kernel) _ _).trans ?_
    rfl
  isplitl [H12]
  · iexists _; isplitr; swap; · iexact H12
    ipureintro
    refine (View.read_writes_eq_canon _ _ _ (fun y => View.cover_of_tiled [⟨_, _⟩] S256x1024.size (by rfl) y)).trans ?_
    refine (View.canon_unit_zero (by decide +kernel) _ _).trans ?_
    rfl
  isplitl [H13]
  · iexists _; isplitr; swap; · iexact H13
    ipureintro
    rw [View.read_writes_eq_canon _ _ _ ?_]; swap
    · intro y; exact View.cover_of_tiled (s := S4608x1024) _ ![1152, 1024] (by rfl) y
    rw [← ld_w (View.read (Elt F) arg2.view f2), ← ld_b (View.read (Elt F) arg3.view f3), ← ld_w (View.read (Elt F) arg4.view f4),
      ← ld_b (View.read (Elt F) arg5.view f5), ← ld_w (View.read (Elt F) arg6.view f6), ← ld_b (View.read (Elt F) arg7.view f7),
      ← ld_w (View.read (Elt F) arg8.view f8), ← ld_b (View.read (Elt F) arg9.view f9)]
    rfl
  iexists _; isplitr; swap; · iexact H14
  ipureintro
  exact read_setRow i _ _

set_option maxHeartbeats 2000000 in
/-- The body between. -/
theorem run_mid (c : Dev nD) (i : grid0.Coords) (arg1 : Memref sig .tc .vmem S256x2x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S16x2 .i32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S4608x1024 .bf16) (harg13 : arg13.IsWhole) (arg14 : Memref sig .tc .vmem S16x2048 .f32) (harg14 : arg14.IsWhole)
    (hc0 : ¬k0_cond1 i = 1#1) (hc1 : ¬k0_cond2 i = 1#1)
     (x : Vec F S256x2x1024 .f32) (Wq : Vec F S1024x1024 .f32) (bq : Vec F S1x1024 .f32) (Wk : Vec F S1024x1024 .f32) (bk : Vec F S1x1024 .f32) (Wv : Vec F S1024x1024 .f32) (bv : Vec F S1x1024 .f32) (Wo : Vec F S1024x1024 .f32) (bo : Vec F S1x1024 .f32) (d10 : Vec F S16x2 .i32) (d13 : Vec F S4608x1024 .bf16) (xs : Vec F S16x2048 .f32) (E : Set ℕ) (K : PUnit → sProp 𝕄) :
    iprop(owns (c : Thread nD τ) arg1 fullShare x
      ∗ owns (c : Thread nD τ) arg2 fullShare Wq
      ∗ owns (c : Thread nD τ) arg3 fullShare bq
      ∗ owns (c : Thread nD τ) arg4 fullShare Wk
      ∗ owns (c : Thread nD τ) arg5 fullShare bk
      ∗ owns (c : Thread nD τ) arg6 fullShare Wv
      ∗ owns (c : Thread nD τ) arg7 fullShare bv
      ∗ owns (c : Thread nD τ) arg8 fullShare Wo
      ∗ owns (c : Thread nD τ) arg9 fullShare bo
      ∗ owns (c : Thread nD τ) arg10 fullShare d10 ∗ (∃ d, owns (c : Thread nD τ) arg11 fullShare d) ∗ (∃ d, owns (c : Thread nD τ) arg12 fullShare d)
      ∗ owns (c : Thread nD τ) arg13 fullShare d13 ∗ owns (c : Thread nD τ) arg14 fullShare xs
      ∗ (iprop(owns (c : Thread nD τ) arg1 fullShare x
      ∗ owns (c : Thread nD τ) arg2 fullShare Wq
      ∗ owns (c : Thread nD τ) arg3 fullShare bq
      ∗ owns (c : Thread nD τ) arg4 fullShare Wk
      ∗ owns (c : Thread nD τ) arg5 fullShare bk
      ∗ owns (c : Thread nD τ) arg6 fullShare Wv
      ∗ owns (c : Thread nD τ) arg7 fullShare bv
      ∗ owns (c : Thread nD τ) arg8 fullShare Wo
      ∗ owns (c : Thread nD τ) arg9 fullShare bo
          ∗ owns (c : Thread nD τ) arg10 fullShare (d10) ∗ owns (c : Thread nD τ) arg11 fullShare (rows0 x) ∗ owns (c : Thread nD τ) arg12 fullShare (rows1 x)
          ∗ owns (c : Thread nD τ) arg13 fullShare (d13) ∗ owns (c : Thread nD τ) arg14 fullShare (setRow i xs (meanRow x))) -∗ K ⟨⟩))
      ⊢ wp frame (wpE (defs₀ (F := F)) Variants.none c none) E (cc0__perm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__perm_kernel_eq_skeleton]; unfold cc0__perm_kernel_skel
  simp only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
  subst hf1 hf2 hf3 hf4 hf5 hf6 hf7 hf8 hf9 hf10 hf13 hf14
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr; swap; · iexact H11
    ipureintro
    refine (View.read_writes_eq_canon _ _ _ (fun y => View.cover_of_tiled [⟨_, _⟩] S256x1024.size (by rfl) y)).trans ?_
    refine (View.canon_unit_zero (by decide +kernel) _ _).trans ?_
    rfl
  isplitl [H12]
  · iexists _; isplitr; swap; · iexact H12
    ipureintro
    refine (View.read_writes_eq_canon _ _ _ (fun y => View.cover_of_tiled [⟨_, _⟩] S256x1024.size (by rfl) y)).trans ?_
    refine (View.canon_unit_zero (by decide +kernel) _ _).trans ?_
    rfl
  isplitl [H13]
  · iexists f13; isplitr; · ipureintro; rfl
    iexact H13
  iexists _; isplitr; swap; · iexact H14
  ipureintro
  exact read_setRow i _ _

set_option maxHeartbeats 2000000 in
/-- The body at the last point. -/
theorem run_last (c : Dev nD) (i : grid0.Coords) (arg1 : Memref sig .tc .vmem S256x2x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1x1024 .f32) (harg9 : arg9.IsWhole) (arg10 : Memref sig .tc .vmem S16x2 .i32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S4608x1024 .bf16) (harg13 : arg13.IsWhole) (arg14 : Memref sig .tc .vmem S16x2048 .f32) (harg14 : arg14.IsWhole)
    (hc0 : ¬k0_cond1 i = 1#1) (hc1 : k0_cond2 i = 1#1)
     (x : Vec F S256x2x1024 .f32) (Wq : Vec F S1024x1024 .f32) (bq : Vec F S1x1024 .f32) (Wk : Vec F S1024x1024 .f32) (bk : Vec F S1x1024 .f32) (Wv : Vec F S1024x1024 .f32) (bv : Vec F S1x1024 .f32) (Wo : Vec F S1024x1024 .f32) (bo : Vec F S1x1024 .f32) (d10 : Vec F S16x2 .i32) (d13 : Vec F S4608x1024 .bf16) (xs : Vec F S16x2048 .f32) (E : Set ℕ) (K : PUnit → sProp 𝕄) :
    iprop(owns (c : Thread nD τ) arg1 fullShare x
      ∗ owns (c : Thread nD τ) arg2 fullShare Wq
      ∗ owns (c : Thread nD τ) arg3 fullShare bq
      ∗ owns (c : Thread nD τ) arg4 fullShare Wk
      ∗ owns (c : Thread nD τ) arg5 fullShare bk
      ∗ owns (c : Thread nD τ) arg6 fullShare Wv
      ∗ owns (c : Thread nD τ) arg7 fullShare bv
      ∗ owns (c : Thread nD τ) arg8 fullShare Wo
      ∗ owns (c : Thread nD τ) arg9 fullShare bo
      ∗ owns (c : Thread nD τ) arg10 fullShare d10 ∗ (∃ d, owns (c : Thread nD τ) arg11 fullShare d) ∗ (∃ d, owns (c : Thread nD τ) arg12 fullShare d)
      ∗ owns (c : Thread nD τ) arg13 fullShare d13 ∗ owns (c : Thread nD τ) arg14 fullShare xs
      ∗ (iprop(owns (c : Thread nD τ) arg1 fullShare x
      ∗ owns (c : Thread nD τ) arg2 fullShare Wq
      ∗ owns (c : Thread nD τ) arg3 fullShare bq
      ∗ owns (c : Thread nD τ) arg4 fullShare Wk
      ∗ owns (c : Thread nD τ) arg5 fullShare bk
      ∗ owns (c : Thread nD τ) arg6 fullShare Wv
      ∗ owns (c : Thread nD τ) arg7 fullShare bv
      ∗ owns (c : Thread nD τ) arg8 fullShare Wo
      ∗ owns (c : Thread nD τ) arg9 fullShare bo
          ∗ owns (c : Thread nD τ) arg10 fullShare (perm (setRow i xs (meanRow x)) Wq bq Wk bk) ∗ owns (c : Thread nD τ) arg11 fullShare (rows0 x) ∗ owns (c : Thread nD τ) arg12 fullShare (rows1 x)
          ∗ owns (c : Thread nD τ) arg13 fullShare (d13) ∗ owns (c : Thread nD τ) arg14 fullShare (setRow i xs (meanRow x))) -∗ K ⟨⟩))
      ⊢ wp frame (wpE (defs₀ (F := F)) Variants.none c none) E (cc0__perm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__perm_kernel_eq_skeleton]; unfold cc0__perm_kernel_skel
  simp only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
  subst hf1 hf2 hf3 hf4 hf5 hf6 hf7 hf8 hf9 hf10 hf13 hf14
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    refine (View.read_writes_eq_canon _ _ _ (fun y => View.cover_of_tiled [⟨_, _⟩] S16x2.size (by rfl) y)).trans ?_
    refine (View.canon_unit_zero (by decide +kernel) _ _).trans ?_
    unfold run_last.sl.r_5 run_last.sl.r_10 run_last.sl.r_11 run_last.sl.r_12
    unfold run_last.sl.r_3 run_last.sl.r_4 run_last.sl.r_8 run_last.sl.r_9
    unfold run_last.sl.r run_last.sl.r_1 run_last.sl.r_2 run_last.sl.r_6 run_last.sl.r_7 run_last.sl.cst_53 run_last.sl.H14_1
    simp only [pay11_eq, pay12_eq, pay13_eq, pay14_eq, pay15_eq, pay16_eq, pay17_eq, pay18_eq, pay19_eq, pay20_eq, pay21_eq, pay7_eq]
    rw [← read_setRow i, ← ld_w (View.read (Elt F) arg2.view f2), ← ld_b (View.read (Elt F) arg3.view f3), ← ld_w (View.read (Elt F) arg4.view f4),
      ← ld_b (View.read (Elt F) arg5.view f5)]
    rfl
  isplitl [H11]
  · iexists _; isplitr; swap; · iexact H11
    ipureintro
    refine (View.read_writes_eq_canon _ _ _ (fun y => View.cover_of_tiled [⟨_, _⟩] S256x1024.size (by rfl) y)).trans ?_
    refine (View.canon_unit_zero (by decide +kernel) _ _).trans ?_
    rfl
  isplitl [H12]
  · iexists _; isplitr; swap; · iexact H12
    ipureintro
    refine (View.read_writes_eq_canon _ _ _ (fun y => View.cover_of_tiled [⟨_, _⟩] S256x1024.size (by rfl) y)).trans ?_
    refine (View.canon_unit_zero (by decide +kernel) _ _).trans ?_
    rfl
  isplitl [H13]
  · iexists f13; isplitr; · ipureintro; rfl
    iexact H13
  iexists _; isplitr; swap; · iexact H14
  ipureintro
  exact read_setRow i _ _

end Cert.KernelIdeal.Perm

end
-- ==== Proof.KernelIdeal.Region0.lean ====
/- The permutation call as a pipeline region: what each window's staging buffer holds at a point, what the scratch holds
   between points, and the body's obligation. The scratch's rows below the current point are the mean rows of the
   blocks already seen; the packed weights are stored once, at the first point, and wait in their staging buffer until
   the last point writes them back; the permutation is stored at the last point only. Stated for any contents `V`
   of the arrays. -/
module

public import proofs.«01_k».proof.Proof.KernelIdeal.Run0
public import proofs.«01_k».proof.Proof.Gen.KernelIdeal.Points
public import Idealize.ShloMosaic.Lib.Pipeline.FrameBody
public import Idealize.ShloMosaic.Lib.ValueIdx
public import Idealize.ShloMosaic.Lib.WordCmp

@[expose] public section

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points, and the row each one stores -/

theorem coord (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

theorem cond1_iff (t : Fin cfg0.N) : k0_cond1 (grid0.coords t) = 1#1 ↔ t.val = 0 := by
  have ht : t.val < 16 := Nat.lt_of_lt_of_eq t.isLt N_0
  have e0 := coord t
  simp only [k0_cond1, e0]; word_cmp

theorem cond2_iff (t : Fin cfg0.N) : k0_cond2 (grid0.coords t) = 1#1 ↔ t.val = 15 := by
  have ht : t.val < 16 := Nat.lt_of_lt_of_eq t.isLt N_0
  have e0 := coord t
  simp only [k0_cond2, e0]; word_cmp

theorem off1_0 (t : Fin cfg0.N) : k0_off1 (grid0.coords t) 0 = t.val := by
  have ht : t.val < 16 := Nat.lt_of_lt_of_eq t.isLt N_0
  have e0 := coord t
  simp only [k0_off1, e0, Scalar.indexCast, Matrix.cons_val_zero]
  simp only [BitVec.toNat_signExtend, BitVec.toNat_ofNat]
  first | omega | (simp; omega)

/-- The stored row, read back. -/
theorem setRow_same (t : Fin cfg0.N) (xs : Vec F S16x2048 .f32) (r : FVec F S1x2048 .f32) (y : S16x2048.Idx) (h : (y 0).val = t.val) :
    Perm.setRow (grid0.coords t) xs r y = r (ix2 (0 : Fin 1) (y 1)) := by
  unfold Perm.setRow
  have e : y = (Rect.unit (s := S16x2048) (k0_off1 (grid0.coords t)) S1x2048.size (k0_off1_inb (grid0.coords t))).emb (ix2 (0 : Fin 1) (y 1)) := by
    funext a
    refine Fin.ext ?_
    rw [Rect.emb_apply]
    match a with
    | ⟨0, _⟩ => show (y 0).val = k0_off1 (grid0.coords t) 0 + 1 * 0; rw [off1_0]; omega
    | ⟨1, _⟩ => show (y 1).val = 0 + 1 * (y 1).val; omega
  conv_lhs => rw [e]
  rw [Rect.overlay_emb]

/-- The other rows stay. -/
theorem setRow_other (t : Fin cfg0.N) (xs : Vec F S16x2048 .f32) (r : FVec F S1x2048 .f32) (y : S16x2048.Idx) (h : (y 0).val ≠ t.val) :
    Perm.setRow (grid0.coords t) xs r y = xs y := by
  unfold Perm.setRow
  refine Rect.overlay_of_not_mem _ _ _ fun hm => h ?_
  have := (Rect.mem_set_unit.mp hm) 0
  rw [off1_0] at this
  have h1 : S1x2048.size 0 = 1 := rfl
  omega

variable (V : (c : Dev nD) → (b : Ref sig .tc) → Buf (Elt F) ((c : Thread nD τ).loc b))

/-- Window `w`'s block at point `t`, read off its array. -/
def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The first point. -/
abbrev t₀ : Fin cfg0.N := ⟨0, by decide⟩

/-- All the mean rows. -/
def xsum (c : Dev nD) : Vec F S16x2048 .f32 := fun y =>
  Perm.meanRow (iblk V c 0 ⟨(y 0).val, Nat.lt_of_lt_of_eq (y 0).isLt N_0.symm⟩) (ix2 (0 : Fin 1) (y 1))

/-- The packed weights. -/
def packed (c : Dev nD) : Vec F S4608x1024 .bf16 :=
  Perm.packed (iblk V c 1 t₀) (iblk V c 2 t₀) (iblk V c 3 t₀) (iblk V c 4 t₀) (iblk V c 5 t₀) (iblk V c 6 t₀) (iblk V c 7 t₀) (iblk V c 8 t₀)

/-- The permutation. -/
def perm (c : Dev nD) : IVec S16x2 32 :=
  Perm.perm (xsum V c) (iblk V c 1 t₀) (iblk V c 2 t₀) (iblk V c 3 t₀) (iblk V c 4 t₀)

/-- A buffer at some contents. -/
abbrev anyAt (c : Dev nD) (b : Ref sig .tc) : sProp 𝕄 :=
  iprop(∃ f : Buf (Elt F) ((c : Thread nD τ).loc b), ((c : Thread nD τ).loc b) ↦{fullShare} f)

/-- The other call's staging buffers. -/
abbrev others (c : Dev nD) : sProp 𝕄 :=
  iprop(anyAt c cc1_stg0_0 ∗ anyAt c cc1_stg0_1 ∗ anyAt c cc1_stg1_0 ∗ anyAt c cc1_stg1_1 ∗ anyAt c cc1_stg2_0 ∗ anyAt c cc1_stg3_0 ∗ anyAt c cc1_stg3_1)

theorem scopedRest_eq (c : Dev nD) :
    (Pipeline.scopedRest spec0 c : sProp 𝕄) = iprop(anyAt c cc0_scratch0 ∗ others c) := scopedRest0_eq c

/-- The scratch before point `n`: the rows below `n` hold their blocks' mean rows. -/
abbrev scratch (c : Dev nD) (n : Nat) : sProp 𝕄 :=
  iprop(∃ xs : Vec F S16x2048 .f32, ⌜∀ y : S16x2048.Idx, (y 0).val < n → xs y = xsum V c y⌝
    ∗ owns (c : Thread nD τ) (Memref.whole cc0_scratch0) fullShare xs)

/-- What each point leaves. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => perm V c
    | ⟨10, _⟩ => Perm.rows0 (iblk V c 0 t)
    | ⟨11, _⟩ => Perm.rows1 (iblk V c 0 t)
    | ⟨12, _⟩ => packed V c
  Φ t := iprop(scratch V c t.val ∗ others c)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]; try rfl
theorem after_1 (c : Dev nD) (t : Fin cfg0.N) : (dat V c).after 1 t = iblk V c 1 t := by dsimp only [dat]; try rfl
theorem after_2 (c : Dev nD) (t : Fin cfg0.N) : (dat V c).after 2 t = iblk V c 2 t := by dsimp only [dat]; try rfl
theorem after_3 (c : Dev nD) (t : Fin cfg0.N) : (dat V c).after 3 t = iblk V c 3 t := by dsimp only [dat]; try rfl
theorem after_4 (c : Dev nD) (t : Fin cfg0.N) : (dat V c).after 4 t = iblk V c 4 t := by dsimp only [dat]; try rfl
theorem after_5 (c : Dev nD) (t : Fin cfg0.N) : (dat V c).after 5 t = iblk V c 5 t := by dsimp only [dat]; try rfl
theorem after_6 (c : Dev nD) (t : Fin cfg0.N) : (dat V c).after 6 t = iblk V c 6 t := by dsimp only [dat]; try rfl
theorem after_7 (c : Dev nD) (t : Fin cfg0.N) : (dat V c).after 7 t = iblk V c 7 t := by dsimp only [dat]; try rfl
theorem after_8 (c : Dev nD) (t : Fin cfg0.N) : (dat V c).after 8 t = iblk V c 8 t := by dsimp only [dat]; try rfl
theorem after_9 (c : Dev nD) (t : Fin cfg0.N) : (dat V c).after 9 t = perm V c := by dsimp only [dat]; try rfl
theorem after_10 (c : Dev nD) (t : Fin cfg0.N) : (dat V c).after 10 t = Perm.rows0 (iblk V c 0 t) := by dsimp only [dat]; try rfl
theorem after_11 (c : Dev nD) (t : Fin cfg0.N) : (dat V c).after 11 t = Perm.rows1 (iblk V c 0 t) := by dsimp only [dat]; try rfl
theorem after_12 (c : Dev nD) (t : Fin cfg0.N) : (dat V c).after 12 t = packed V c := by dsimp only [dat]; try rfl

theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dat V c).before 8 t d = iblk V c 8 t :=
  ((dat V c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! The weights and biases are one block each. -/

theorem iblk_1 (c : Dev nD) (t : Fin cfg0.N) : iblk V c 1 t = iblk V c 1 t₀ := rfl
theorem iblk_2 (c : Dev nD) (t : Fin cfg0.N) : iblk V c 2 t = iblk V c 2 t₀ := rfl
theorem iblk_3 (c : Dev nD) (t : Fin cfg0.N) : iblk V c 3 t = iblk V c 3 t₀ := rfl
theorem iblk_4 (c : Dev nD) (t : Fin cfg0.N) : iblk V c 4 t = iblk V c 4 t₀ := rfl
theorem iblk_5 (c : Dev nD) (t : Fin cfg0.N) : iblk V c 5 t = iblk V c 5 t₀ := rfl
theorem iblk_6 (c : Dev nD) (t : Fin cfg0.N) : iblk V c 6 t = iblk V c 6 t₀ := rfl
theorem iblk_7 (c : Dev nD) (t : Fin cfg0.N) : iblk V c 7 t = iblk V c 7 t₀ := rfl
theorem iblk_8 (c : Dev nD) (t : Fin cfg0.N) : iblk V c 8 t = iblk V c 8 t₀ := rfl

/-! ## The idle windows -/

theorem idle_9 (t : Fin cfg0.N) : cfg0.idle 9 (cfg0.grid.coords t) = decide (t.val ≠ 15) := by
  show (!(k0_cond2 (grid0.coords t) == 1#1)) = _
  by_cases h : t.val = 15
  · rw [(cond2_iff t).mpr h]; simp [h]
  · have : ¬ k0_cond2 (grid0.coords t) = 1#1 := fun e => h ((cond2_iff t).mp e)
    simp [h, this]
theorem idle_12 (t : Fin cfg0.N) : cfg0.idle 12 (cfg0.grid.coords t) = decide (t.val ≠ 0) := by
  show (!(k0_cond1 (grid0.coords t) == 1#1)) = _
  by_cases h : t.val = 0
  · rw [(cond1_iff t).mpr h]; simp [h]
  · have : ¬ k0_cond1 (grid0.coords t) = 1#1 := fun e => h ((cond1_iff t).mp e)
    simp [h, this]
theorem flush_9 (t : Fin cfg0.N) : (cfg0.win 9).flush t = decide (t.val = 15) := by
  have ht : t.val < 16 := Nat.lt_of_lt_of_eq t.isLt N_0
  rw [Bool.eq_iff_iff, flush0_9, decide_eq_true_iff]; omega
theorem flush_12 (t : Fin cfg0.N) : (cfg0.win 12).flush t = decide (t.val = 15) := by
  have ht : t.val < 16 := Nat.lt_of_lt_of_eq t.isLt N_0
  rw [Bool.eq_iff_iff, flush0_12, decide_eq_true_iff]; omega

/-- After the first point the weights' staging buffer holds the packed weights. -/
theorem before_12 (c : Dev nD) (d) : ∀ n (hn : n < cfg0.N), n ≠ 0 → (dat V c).before 12 ⟨n, hn⟩ d = packed V c := by
  intro n
  induction n with
  | zero => intro _ h; exact absurd rfl h
  | succ n ih =>
    intro hn _
    have h16 : n + 1 < 16 := Nat.lt_of_lt_of_eq hn N_0
    rw [Dat.before_of_pos _ _ _ (Nat.succ_ne_zero n) rfl]
    have hf : (cfg0.win 12).flush ⟨n, Nat.lt_of_succ_lt hn⟩ = false := by
      rw [flush_12]; exact decide_eq_false (by show ¬ n = 15; omega)
    show (if (cfg0.win 12).flush ⟨n, Nat.lt_of_succ_lt hn⟩ then d else (dat V c).left 12 ⟨n, Nat.lt_of_succ_lt hn⟩ d) = _
    rw [hf, if_neg Bool.false_ne_true]
    unfold Dat.left
    by_cases h0 : n = 0
    · subst h0
      rw [show cfg0.idle 12 (cfg0.grid.coords ⟨0, Nat.lt_of_succ_lt hn⟩) = false by rw [idle_12]; rfl]
      show (dat V c).kept 12 _ d = _
      unfold Dat.kept
      rw [Pipeline.fill_of_clip_none 12 _ (fun _ => rfl) d ((dat V c).after 12 _), Window.fill_cut, after_12]
    · rw [show cfg0.idle 12 (cfg0.grid.coords ⟨n, Nat.lt_of_succ_lt hn⟩) = true by rw [idle_12]; exact decide_eq_true h0]
      exact ih (Nat.lt_of_succ_lt hn) h0

/-! ## The body's obligation -/

/-- What the body is handed at point `t`. -/
abbrev bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d)))

/-- What it hands back. -/
abbrev bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ (dat V c).leavesExact 9 t
    ∗ owns (c : Thread nD τ) (st0_10 t) fullShare ((dat V c).after 10 t)
    ∗ owns (c : Thread nD τ) (st0_11 t) fullShare ((dat V c).after 11 t)
    ∗ (dat V c).leavesExact 12 t)

/-- The scratch's rows after one more is written. -/
theorem rows_succ (c : Dev nD) (t : Fin cfg0.N) (xs : Vec F S16x2048 .f32) (hxs : ∀ y : S16x2048.Idx, (y 0).val < t.val → xs y = xsum V c y)
    (y : S16x2048.Idx) (hy : (y 0).val < t.val + 1) : Perm.setRow (grid0.coords t) xs (Perm.meanRow (iblk V c 0 t)) y = xsum V c y := by
  by_cases h : (y 0).val = t.val
  · rw [setRow_same t _ _ y h]
    unfold xsum
    have e : (⟨(y 0).val, Nat.lt_of_lt_of_eq (y 0).isLt N_0.symm⟩ : Fin cfg0.N) = t := Fin.ext h
    rw [e]
  · rw [setRow_other t _ _ y h]; exact hxs y (by omega)

set_option maxHeartbeats 1000000 in
theorem sound_first (c : Dev nD) (t : Fin cfg0.N) (h : t.val = 0) :
    bodyPre V c t ⊢ wp frame (wpE (defs₀ (F := F)) Variants.none c none) Set.univ (bodyAt0 t) (fun _ => bodyPost V c t) := by
  have ht16 : t.val < 16 := Nat.lt_of_lt_of_eq t.isLt N_0
  unfold bodyPre bodyPost
  rw [(dat V c).leavesExact_idle 9 t (by rw [idle_9]; exact decide_eq_true (by omega)) (by rw [flush_9]; exact decide_eq_false (by omega))]
  rw [show (dat V c).leavesExact 12 t = owns (c : Thread nD τ) (st0_12 t) fullShare (packed V c) by
    unfold Dat.leavesExact
    rw [show cfg0.idle 12 (cfg0.grid.coords t) = false by rw [idle_12]; exact decide_eq_false (by omega), ← after_12 V c t]]
  simp only [before_0, before_1, before_2, before_3, before_4, before_5, before_6, before_7, before_8, after_0, after_1, after_2, after_3, after_4, after_5, after_6, after_7, after_8, after_10, after_11]
  rw [show (dat V c).owesAt () t.succ = (dat V c).owesAt () t.castSucc from rfl,
    show (dat V c).Φ t.castSucc = iprop(scratch V c t.val ∗ others c) from rfl,
    show (dat V c).Φ t.succ = iprop(scratch V c (t.val + 1) ∗ others c) from rfl]
  iintro ⟨⟨⟨%xs, %hxs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((Perm.run_first c (grid0.coords t) _ _ _ _ _ _ _ _ _ _ _ _ _ _ _ _ _ _ _ _ _ _ _ _ _ _ _ _ ((cond1_iff t).mpr h) (fun e => by have := (cond2_iff t).mp e; omega) (iblk V c 0 t) (iblk V c 1 t) (iblk V c 2 t) (iblk V c 3 t) (iblk V c 4 t) (iblk V c 5 t) (iblk V c 6 t) (iblk V c 7 t) (iblk V c 8 t) _ _ xs) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [HS]; · iexact HS
  iintro ⟨H0, H1, H2, H3, H4, H5, H6, H7, H8, H9, H10, H11, H12, HS⟩
  isplitl [HS HR]
  · isplitl [HS]
    · iexists _; isplitr; swap; · iexact HS
      ipureintro; exact rows_succ V c t xs hxs
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  isplitl [H10]; · iexact H10
  isplitl [H11]; · iexact H11
  have e : t = t₀ := Fin.ext h
  subst e
  iexact H12

set_option maxHeartbeats 1000000 in
theorem sound_mid (c : Dev nD) (t : Fin cfg0.N) (h0 : t.val ≠ 0) (h15 : t.val ≠ 15) :
    bodyPre V c t ⊢ wp frame (wpE (defs₀ (F := F)) Variants.none c none) Set.univ (bodyAt0 t) (fun _ => bodyPost V c t) := by
  have ht16 : t.val < 16 := Nat.lt_of_lt_of_eq t.isLt N_0
  unfold bodyPre bodyPost
  rw [(dat V c).leavesExact_idle 9 t (by rw [idle_9]; exact decide_eq_true (by omega)) (by rw [flush_9]; exact decide_eq_false (by omega))]
  rw [(dat V c).leavesExact_idle 12 t (by rw [idle_12]; exact decide_eq_true (by omega)) (by rw [flush_12]; exact decide_eq_false (by omega))]
  simp only [before_0, before_1, before_2, before_3, before_4, before_5, before_6, before_7, before_8, after_0, after_1, after_2, after_3, after_4, after_5, after_6, after_7, after_8, after_10, after_11]
  rw [show (dat V c).owesAt () t.succ = (dat V c).owesAt () t.castSucc from rfl,
    show (dat V c).Φ t.castSucc = iprop(scratch V c t.val ∗ others c) from rfl,
    show (dat V c).Φ t.succ = iprop(scratch V c (t.val + 1) ∗ others c) from rfl]
  iintro ⟨⟨⟨%xs, %hxs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((Perm.run_mid c (grid0.coords t) _ _ _ _ _ _ _ _ _ _ _ _ _ _ _ _ _ _ _ _ _ _ _ _ _ _ _ _ (fun e => by have := (cond1_iff t).mp e; omega) (fun e => by have := (cond2_iff t).mp e; omega) (iblk V c 0 t) (iblk V c 1 t) (iblk V c 2 t) (iblk V c 3 t) (iblk V c 4 t) (iblk V c 5 t) (iblk V c 6 t) (iblk V c 7 t) (iblk V c 8 t) _ _ xs) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [HS]; · iexact HS
  iintro ⟨H0, H1, H2, H3, H4, H5, H6, H7, H8, H9, H10, H11, H12, HS⟩
  isplitl [HS HR]
  · isplitl [HS]
    · iexists _; isplitr; swap; · iexact HS
      ipureintro; exact rows_succ V c t xs hxs
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  isplitl [H10]; · iexact H10
  isplitl [H11]; · iexact H11
  iexists d12; iexact H12

set_option maxHeartbeats 1000000 in
theorem sound_last (c : Dev nD) (t : Fin cfg0.N) (h : t.val = 15) :
    bodyPre V c t ⊢ wp frame (wpE (defs₀ (F := F)) Variants.none c none) Set.univ (bodyAt0 t) (fun _ => bodyPost V c t) := by
  have ht16 : t.val < 16 := Nat.lt_of_lt_of_eq t.isLt N_0
  unfold bodyPre bodyPost
  rw [show (dat V c).leavesExact 9 t = owns (c : Thread nD τ) (st0_9 t) fullShare (perm V c) by
    unfold Dat.leavesExact
    rw [show cfg0.idle 9 (cfg0.grid.coords t) = false by rw [idle_9]; exact decide_eq_false (by omega), ← after_9 V c t]]
  rw [show (dat V c).leavesExact 12 t = owns (c : Thread nD τ) (st0_12 t) fullShare (packed V c) by
    unfold Dat.leavesExact
    rw [show cfg0.idle 12 (cfg0.grid.coords t) = true by rw [idle_12]; exact decide_eq_true (by omega),
      show (cfg0.win 12).flush t = true by rw [flush_12]; exact decide_eq_true h, ← after_12 V c t]]
  have hb12 : ∀ d, (dat V c).before 12 t d = packed V c := fun d => before_12 V c d t.val t.isLt (by omega)
  simp only [hb12]
  simp only [before_0, before_1, before_2, before_3, before_4, before_5, before_6, before_7, before_8, after_0, after_1, after_2, after_3, after_4, after_5, after_6, after_7, after_8, after_10, after_11]
  rw [show (dat V c).owesAt () t.succ = (dat V c).owesAt () t.castSucc from rfl,
    show (dat V c).Φ t.castSucc = iprop(scratch V c t.val ∗ others c) from rfl,
    show (dat V c).Φ t.succ = iprop(scratch V c (t.val + 1) ∗ others c) from rfl]
  iintro ⟨⟨⟨%xs, %hxs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((Perm.run_last c (grid0.coords t) _ _ _ _ _ _ _ _ _ _ _ _ _ _ _ _ _ _ _ _ _ _ _ _ _ _ _ _ (fun e => by have := (cond1_iff t).mp e; omega) ((cond2_iff t).mpr h) (iblk V c 0 t) (iblk V c 1 t) (iblk V c 2 t) (iblk V c 3 t) (iblk V c 4 t) (iblk V c 5 t) (iblk V c 6 t) (iblk V c 7 t) (iblk V c 8 t) _ _ xs) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [HS]; · iexact HS
  iintro ⟨H0, H1, H2, H3, H4, H5, H6, H7, H8, H9, H10, H11, H12, HS⟩
  isplitl [HS HR]
  · isplitl [HS]
    · iexists _; isplitr; swap; · iexact HS
      ipureintro; exact rows_succ V c t xs hxs
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · have e : Perm.setRow (grid0.coords t) xs (Perm.meanRow (iblk V c 0 t)) = xsum V c :=
      funext fun y => rows_succ V c t xs hxs y (by have : (y 0).val < 16 := (y 0).isLt; omega)
    rw [e]
    iexact H9
  isplitl [H10]; · iexact H10
  isplitl [H11]; · iexact H11
  iexact H12

theorem sound_body (c : Dev nD) (t : Fin cfg0.N) :
    bodyPre V c t ⊢ wp frame (wpE (defs₀ (F := F)) Variants.none c none) Set.univ (bodyAt0 t) (fun _ => bodyPost V c t) := by
  by_cases h0 : t.val = 0
  · exact sound_first V c t h0
  by_cases h15 : t.val = 15
  · exact sound_last V c t h15
  exact sound_mid V c t h0 h15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Region0

end
-- ==== Proof.KernelIdeal.Attn.lean ====
/- What one grid point of the attention call computes, as one function of the two blocks of rows and the packed
   weights it loads: sixteen heads of softmax attention inside each block, then the output projection of the two
   results together. Stated at any float type; nothing here is about how the body runs. -/
module

public import proofs.«01_k».proof.Proof.Gen.KernelIdeal.Skeleton
public import Idealize.ShloMosaic.Lib.Pipeline.FrameBody
public import Idealize.ShloMosaic.Lib.Pipeline.Value

@[expose] public section

noncomputable section

namespace Cert.KernelIdeal.Attn

open Cert.KernelIdeal Cert.KernelIdeal.Gen Idealize.ShloMosaic

variable {F : FTy → Type} [FloatOps F]

/-- Columns `64 h … 64 h + 63` lie inside a 1024-wide block. -/
theorem head_slice (h : Fin 16) : S256x1024.Slices ![0, 64 * h.val] S256x64 := by
  revert h; decide

/-- One block of rows with the 128 extra columns beside it: the first extra column is one, the others zero. -/
def augRows (x : FVec F S256x1024 .bf16) : FVec F S256x1152 .bf16 :=
  concatenate S256x1152 1 [⟨S256x1024, shapeCast S256x1024 x shapeCasts_S256x1024_S256x1024⟩,
    ⟨S256x128, truncf .bf16 (select (cmpi .eq (iota .tc S256x128 32 [1] iota_S256x128_d1_w32) (broadcast S256x128 0#32))
      (broadcast S256x128 (Scalar.ofBits .f32 0x3F800000#32 : F .f32)) (broadcast S256x128 (Scalar.ofBits .f32 0x00000000#32 : F .f32)))
      bitsLt_bf16_f32⟩] concatenates_S256x1024_S256x128_S256x1152_d1

/-- One projection of a block: the widened rows against a 1152-row slice of the packed weights. -/
def proj (x : FVec F S256x1024 .bf16) (w : FVec F S1152x1024 .bf16) : FVec F S256x1024 .bf16 :=
  truncf .bf16 (matmul dot_S256x1152_S1152x1024_S256x1024_1_0_0_1_n_n none (augRows x)
    (shapeCast S1152x1024 w shapeCasts_S1152x1024_S1152x1024) (constant S256x1024 .f32 0x00000000#32)) bitsLt_bf16_f32

/-- The exponentials of one head's scores, keys down and queries across, less each query's greatest score. -/
def expScores (q k : FVec F S256x1024 .bf16) (h : Fin 16) : FVec F S256x256 .f32 :=
  let st := matmul dot_S256x64_S256x64_S256x256_1_1_0_0_n_n none (extractStridedSlice S256x64 ![0, 64 * h.val] k (head_slice h))
    (extractStridedSlice S256x64 ![0, 64 * h.val] q (head_slice h)) (constant S256x256 .f32 0x00000000#32)
  exp (subf st (broadcastTo S256x256 (shapeCast S1x256
    (multiReduction .maximumf [0] S256 st 0xFF800000#32 reduces_S256x256_S256 (.inl rfl) rfl) shapeCasts_S256_S1x256) broadcasts_S1x256_S256x256))

/-- One head: each query's weights (the exponentials over their sum) against the values. -/
def head (q k v : FVec F S256x1024 .bf16) (h : Fin 16) : FVec F S256x64 .bf16 :=
  let e := expScores q k h
  let p := mulf e (broadcastTo S256x256 (divf (broadcast S1x256 (Scalar.ofBits .f32 0x3F800000#32 : F .f32))
    (shapeCast S1x256 (multiReduction .add [0] S256 e 0x00000000#32 reduces_S256x256_S256 (.inl rfl) rfl) shapeCasts_S256_S1x256))
    broadcasts_S1x256_S256x256)
  truncf .bf16 (matmul dot_S256x256_S256x64_S256x64_0_0_1_1_n_n none (truncf .bf16 p bitsLt_bf16_f32)
    (extractStridedSlice S256x64 ![0, 64 * h.val] v (head_slice h)) (constant S256x64 .f32 0x00000000#32)) bitsLt_bf16_f32

/-- The sixteen heads side by side. -/
def heads (q k v : FVec F S256x1024 .bf16) : FVec F S256x1024 .bf16 :=
  concatenate S256x1024 1 [⟨S256x64, head q k v 0⟩, ⟨S256x64, head q k v 1⟩, ⟨S256x64, head q k v 2⟩, ⟨S256x64, head q k v 3⟩,
    ⟨S256x64, head q k v 4⟩, ⟨S256x64, head q k v 5⟩, ⟨S256x64, head q k v 6⟩, ⟨S256x64, head q k v 7⟩,
    ⟨S256x64, head q k v 8⟩, ⟨S256x64, head q k v 9⟩, ⟨S256x64, head q k v 10⟩, ⟨S256x64, head q k v 11⟩,
    ⟨S256x64, head q k v 12⟩, ⟨S256x64, head q k v 13⟩, ⟨S256x64, head q k v 14⟩, ⟨S256x64, head q k v 15⟩]
    concatenates_S256x64_S256x64_S256x64_S256x64_S256x64_S256x64_S256x64_S256x64_S256x64_S256x64_S256x64_S256x64_S256x64_S256x64_S256x64_S256x64_S256x1024_d1

/-- The four 1152-row slices of the packed weights: queries, keys, values, output. -/
abbrev wq (w : Vec F S4608x1024 .bf16) : FVec F S1152x1024 .bf16 :=
  View.ld w (Rect.unit (s := S4608x1024) ![0, 0] S1152x1024.size inb_S4608x1024_S1152x1024_0_0)
@[inherit_doc wq] abbrev wk (w : Vec F S4608x1024 .bf16) : FVec F S1152x1024 .bf16 :=
  View.ld w (Rect.unit (s := S4608x1024) ![1152, 0] S1152x1024.size inb_S4608x1024_S1152x1024_1152_0)
@[inherit_doc wq] abbrev wv (w : Vec F S4608x1024 .bf16) : FVec F S1152x1024 .bf16 :=
  View.ld w (Rect.unit (s := S4608x1024) ![2304, 0] S1152x1024.size inb_S4608x1024_S1152x1024_2304_0)
@[inherit_doc wq] abbrev wo (w : Vec F S4608x1024 .bf16) : FVec F S1152x1024 .bf16 :=
  View.ld w (Rect.unit (s := S4608x1024) ![3456, 0] S1152x1024.size inb_S4608x1024_S1152x1024_3456_0)

/-- Attention inside one block. -/
def block (x : FVec F S256x1024 .bf16) (w : Vec F S4608x1024 .bf16) : FVec F S256x1024 .bf16 :=
  heads (proj x (wq w)) (proj x (wk w)) (proj x (wv w))

/-- The two blocks' results one under the other, widened as `augRows` widens a block. -/
def augBoth (a b : FVec F S256x1024 .bf16) : FVec F S512x1152 .bf16 :=
  concatenate S512x1152 1 [⟨S512x1024, concatenate S512x1024 0 [⟨S256x1024, a⟩, ⟨S256x1024, b⟩] concatenates_S256x1024_S256x1024_S512x1024_d0⟩,
    ⟨S512x128, truncf .bf16 (select (cmpi .eq (iota .tc S512x128 32 [1] iota_S512x128_d1_w32) (broadcast S512x128 0#32))
      (broadcast S512x128 (Scalar.ofBits .f32 0x3F800000#32 : F .f32)) (broadcast S512x128 (Scalar.ofBits .f32 0x00000000#32 : F .f32)))
      bitsLt_bf16_f32⟩] concatenates_S512x1024_S512x128_S512x1152_d1

/-- The output projection, its two halves set one beside the other along the batch axis. -/
def finish (a b : FVec F S256x1024 .bf16) (w : FVec F S1152x1024 .bf16) : FVec F S256x2x1024 .f32 :=
  let o := matmul dot_S512x1152_S1152x1024_S512x1024_1_0_0_1_n_n none (augBoth a b)
    (shapeCast S1152x1024 w shapeCasts_S1152x1024_S1152x1024) (constant S512x1024 .f32 0x00000000#32)
  concatenate S256x2x1024 1
    [⟨S256x1x1024, shapeCast S256x1x1024 (extractStridedSlice S256x1024 ![0, 0] o slices_S512x1024_o0_0_S256x1024) shapeCasts_S256x1024_S256x1x1024⟩,
     ⟨S256x1x1024, shapeCast S256x1x1024 (extractStridedSlice S256x1024 ![256, 0] o slices_S512x1024_o256_0_S256x1024) shapeCasts_S256x1024_S256x1x1024⟩]
    concatenates_S256x1x1024_S256x1x1024_S256x2x1024_d1

/-- What a grid point stores, from the two blocks of rows and the packed weights. -/
def out (x0 x1 : FVec F S256x1024 .bf16) (w : Vec F S4608x1024 .bf16) : FVec F S256x2x1024 .f32 :=
  finish (block x0 w) (block x1 w) (wo w)

end Cert.KernelIdeal.Attn

end
-- ==== Proof.KernelIdeal.Run1.lean ====
/- The attention call's body, run once: on staging buffers holding two blocks of rows and the packed weights it
   ends with `Attn.out` of them in the output's buffer and everything else as it was. -/
module

public import proofs.«01_k».proof.Proof.KernelIdeal.Attn
public import proofs.«01_k».proof.Proof.Gen.KernelIdeal.Launch
public import Idealize.ShloMosaic.Lib.Pipeline.Frame
public import Idealize.ShloMosaic.Lib.Pipeline.FrameBody
public import Idealize.ShloMosaic.Lib.Tactic

@[expose] public section

set_option maxRecDepth 65536

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block table as the body is handed it: its whole buffer. -/
abbrev tab : Memref sig .tc .smem S16x2 .i32 := Memref.whole main_v6
abbrev htab : tab.IsWhole := Memref.isWhole_whole _
abbrev TabBuf (c : Dev nD) {S : Shape} {e : EltTy} (M : Memref sig .tc .smem S e) : Type := Buf (Elt F) (M.view.loc (c : Thread nD τ))
/-- The table as the body holds it. -/
abbrev tabPt (c : Dev nD) {S : Shape} {e : EltTy} (M : Memref sig .tc .smem S e) (f : TabBuf (F := F) c M) : sProp 𝕄 :=
  M.view.loc (c : Thread nD τ) ↦{fullShare} f

set_option maxHeartbeats 2000000 in
theorem run1 (c : Dev nD) (i : grid1.Coords) (arg2 : Memref sig .tc .vmem S256x1024 .bf16) (harg2 : arg2.IsWhole)
    (arg3 : Memref sig .tc .vmem S256x1024 .bf16) (harg3 : arg3.IsWhole) (arg4 : Memref sig .tc .vmem S4608x1024 .bf16) (harg4 : arg4.IsWhole)
    (arg5 : Memref sig .tc .vmem S256x2x1024 .f32) (harg5 : arg5.IsWhole)
    (x0 x1 : Vec F S256x1024 .bf16) (x2 : Vec F S4608x1024 .bf16) (xt : TabBuf (F := F) c tab) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ tabPt c tab xt
        ∗ (iprop(owns (c : Thread nD τ) arg2 fullShare x0 ∗ owns (c : Thread nD τ) arg3 fullShare x1 ∗ owns (c : Thread nD τ) arg4 fullShare x2
            ∗ owns (c : Thread nD τ) arg5 fullShare (out x0 x1 x2) ∗ tabPt c tab xt) -∗ K ⟨⟩))
      ⊢ wp frame (wpE (defs₀ (F := F)) Variants.none c none) E (cc1__fused_kernel i tab htab arg2 harg2 arg3 harg3 arg4 harg4 arg5 harg5) K := by
  simp only [cc1__fused_kernel_eq_skeleton]; unfold cc1__fused_kernel_skel
  simp only [k1_part14_eq_skeleton, k1_part1_eq_skeleton, k1_part2_eq_skeleton, k1_part3_eq_skeleton, k1_part4_eq_skeleton,
    k1_part5_eq_skeleton, k1_part6_eq_skeleton, k1_part7_eq_skeleton, k1_part8_eq_skeleton, k1_part9_eq_skeleton,
    k1_part10_eq_skeleton, k1_part11_eq_skeleton, k1_part12_eq_skeleton, k1_part13_eq_skeleton]
  unfold owns
  iintro ⟨⟨%f0, %hf0, H0⟩, ⟨%f1, %hf1, H1⟩, ⟨%f2, %hf2, H2⟩, ⟨%d3, %f3, -, H3⟩, HT, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    refine (View.read_writes_eq_canon _ _ _ (fun y => View.cover_of_tiled [⟨_, _⟩] S256x2x1024.size (by rfl) y)).trans ?_
    refine (View.canon_unit_zero (by decide +kernel) _ _).trans ?_
    have e0 : ∀ y : Vec F S256x1024 .bf16, View.ld y (Rect.unit (s := S256x1024) ![0, 0] S256x1024.size inb_S256x1024_S256x1024_0_0) = y :=
      View.ld_unit_zero (by decide +kernel) _
    have : out (View.read (Elt F) arg2.view f0) (View.read (Elt F) arg3.view f1) (View.read (Elt F) arg4.view f2)
        = out (View.ld (View.read (Elt F) arg2.view f0) (Rect.unit (s := S256x1024) ![0, 0] S256x1024.size inb_S256x1024_S256x1024_0_0))
          (View.ld (View.read (Elt F) arg3.view f1) (Rect.unit (s := S256x1024) ![0, 0] S256x1024.size inb_S256x1024_S256x1024_0_0))
          (View.read (Elt F) arg4.view f2) := by rw [e0, e0]
    refine Eq.trans ?_ this.symm
    rfl
  iexact HT

end Cert.KernelIdeal.Attn

end
-- ==== Proof.KernelIdeal.Region1.lean ====
/- The attention call as a pipeline region: what each window's staging buffer holds at a point, and the body's
   obligation there. Everything is stated for any contents `V` of the arrays and any table `a` in range. -/
module

public import proofs.«01_k».proof.Proof.KernelIdeal.Run1
public import Idealize.ShloMosaic.Lib.Pipeline.FrameBody

@[expose] public section

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

/-- Window `w`'s block at point `t`, read off its array. -/
def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The tables, whole. -/
abbrev tables (c : Dev nD) : sProp 𝕄 := Pipeline.prefHeld pre1 c (fun _ => fullShare) a.1

/-- What each point leaves: the inputs their blocks, the output the attention of the two gathered blocks. -/
def dat (c : Dev nD) : Dat τ (Elt F) Unit ℕ (UR sig nD τ) ℕ (cfg1 a) c where
  A w := V c (Pipeline.arrRef spec1 w)
  after w t := match w with
    | ⟨0, _⟩ => iblk V a c 0 t
    | ⟨1, _⟩ => iblk V a c 1 t
    | ⟨2, _⟩ => iblk V a c 2 t
    | ⟨3, _⟩ => Attn.out (iblk V a c 0 t) (iblk V a c 1 t) (iblk V a c 2 t)
  Φ _ := iprop(Pipeline.scopedRest spec1 c ∗ tables a c)
  q _ := fullShare
  owed _ := 0

theorem A_eq (c : Dev nD) (w : Fin (cfg1 a).W) : (dat V a c).A w = V c (Pipeline.arrRef spec1 w) := by
  dsimp only [dat]

theorem after_0 (c : Dev nD) (t : Fin (cfg1 a).N) : (dat V a c).after 0 t = iblk V a c 0 t := by dsimp only [dat]; try rfl
theorem after_1 (c : Dev nD) (t : Fin (cfg1 a).N) : (dat V a c).after 1 t = iblk V a c 1 t := by dsimp only [dat]; try rfl
theorem after_2 (c : Dev nD) (t : Fin (cfg1 a).N) : (dat V a c).after 2 t = iblk V a c 2 t := by dsimp only [dat]; try rfl
theorem after_3 (c : Dev nD) (t : Fin (cfg1 a).N) :
    (dat V a c).after 3 t = Attn.out (iblk V a c 0 t) (iblk V a c 1 t) (iblk V a c 2 t) := by dsimp only [dat]; try rfl

theorem before_0 (c : Dev nD) (t : Fin (cfg1 a).N) (d) : (dat V a c).before 0 t d = iblk V a c 0 t :=
  ((dat V a c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat V a c).before 1 t d = iblk V a c 1 t :=
  ((dat V a c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg1 a).N) (d) : (dat V a c).before 2 t d = iblk V a c 2 t :=
  ((dat V a c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The body at point `t`, on the staging buffers the pipeline hands it. -/
abbrev bodyAt (t : Fin (cfg1 a).N) : Prog (TpuEff nD τ sig (Elt F) Λ₀ .tc) PUnit :=
  cc1__fused_kernel (grid1.coords t) Attn.tab Attn.htab (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))

theorem tables_eq (c : Dev nD) : (tables a c : sProp 𝕄) = Attn.tabPt c Attn.tab (a.1 0) := by
  unfold tables Pipeline.prefHeld
  rw [show (Finset.univ : Finset (Fin 1)) = {(0 : Fin 1)} from by decide, bigSep_singleton]
  rfl

/-- What the body is handed at point `t`. -/
abbrev bodyPre (c : Dev nD) (t : Fin (cfg1 a).N) : sProp 𝕄 :=
  iprop((dat V a c).Φ t.castSucc ∗ (dat V a c).owesAt () t.castSucc
    ∗ (∃ d, owns (c : Thread nD τ) (((cfg1 a).win 0).stage ((cfg1 a).slots t 0)) fullShare ((dat V a c).before 0 t d))
    ∗ (∃ d, owns (c : Thread nD τ) (((cfg1 a).win 1).stage ((cfg1 a).slots t 1)) fullShare ((dat V a c).before 1 t d))
    ∗ (∃ d, owns (c : Thread nD τ) (((cfg1 a).win 2).stage ((cfg1 a).slots t 2)) fullShare ((dat V a c).before 2 t d))
    ∗ (∃ d, owns (c : Thread nD τ) (((cfg1 a).win 3).stage ((cfg1 a).slots t 3)) fullShare ((dat V a c).before 3 t d)))

/-- What it hands back. -/
abbrev bodyPost (c : Dev nD) (t : Fin (cfg1 a).N) : sProp 𝕄 :=
  iprop((dat V a c).Φ t.succ ∗ (dat V a c).owesAt () t.succ
    ∗ owns (c : Thread nD τ) (((cfg1 a).win 0).stage ((cfg1 a).slots t 0)) fullShare ((dat V a c).after 0 t)
    ∗ owns (c : Thread nD τ) (((cfg1 a).win 1).stage ((cfg1 a).slots t 1)) fullShare ((dat V a c).after 1 t)
    ∗ owns (c : Thread nD τ) (((cfg1 a).win 2).stage ((cfg1 a).slots t 2)) fullShare ((dat V a c).after 2 t)
    ∗ owns (c : Thread nD τ) (((cfg1 a).win 3).stage ((cfg1 a).slots t 3)) fullShare ((dat V a c).after 3 t))

theorem sound_body (c : Dev nD) (t : Fin (cfg1 a).N) :
    bodyPre V a c t ⊢ wp frame (wpE (defs₀ (F := F)) Variants.none c none) Set.univ (bodyAt a t) (fun _ => bodyPost V a c t) := by
  unfold bodyPre bodyPost bodyAt
  simp only [before_0, before_1, before_2, after_0, after_1, after_2, after_3]
  rw [show (dat V a c).Φ t.succ = (dat V a c).Φ t.castSucc from rfl, show (dat V a c).owesAt () t.succ = (dat V a c).owesAt () t.castSucc from rfl,
    show (dat V a c).Φ t.castSucc = iprop(Pipeline.scopedRest spec1 c ∗ tables a c) from rfl, tables_eq]
  iintro ⟨⟨HΦ, HT⟩, Ho, ⟨%d0, H0⟩, ⟨%d1, H1⟩, ⟨%d2, H2⟩, ⟨%d3, H3⟩⟩
  iapply ((Attn.run1 c (grid1.coords t) _ _ _ _ _ _ _ _ (iblk V a c 0 t) (iblk V a c 1 t) (iblk V a c 2 t) (a.1 0)) Set.univ _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]
    · iexact HΦ
    iexact HT
  isplitl [Ho]; · iexact Ho
  isplitl [H0]; · iexact H0
  isplitl [H1]; · iexact H1
  isplitl [H2]; · iexact H2
  iexact H3

theorem defs₀_row (t : Fin (cfg1 a).N) :
    defs₀ (F := F) .tc (cfg1 a).body ((cfg1 a).bodyArgs t ((cfg1 a).slots t)) = bodyAt a t := by
  unfold defs₀; rw [Defs.onTc_tc]

theorem body_obligation (c : Dev nD) : BodyObligation (dat (F := F) V a c) (defs₀ (F := F)) Variants.none () Set.univ := fun t => by
  rw [bigSep_W1, bigSep_W1, defs₀_row]
  exact triple_restated (sound_body V a c t) rfl .rfl fun _ => .rfl

end Cert.KernelIdeal.Region1

end
-- ==== Proof.KernelIdeal.Range.lean ====
/- The table the attention call reads its blocks by is in range: `pick` takes the least of indices below seventeen, so
   its signed value is at least zero, and the clip in the host program brings it to at most fifteen. -/
module

public import proofs.«01_k».proof.Proof.KernelIdeal.Perm
public import Idealize.ShloMosaic.Lib.Pipeline.Value
public import Idealize.ShloMosaic.Lib.ValueIdx
public import Idealize.ShloMosaic.Lib.WordCmp

@[expose] public section

noncomputable section

namespace Cert.KernelIdeal.Perm

open Cert.KernelIdeal Cert.KernelIdeal.Gen
open Idealize.ShloMosaic Idealize.ShloMosaic.TcCoe Idealize.ShloMosaic.ValueIdx

variable {F : FTy → Type} [FloatOps F]

/-- What the start and the elements have, and the operation keeps, the fold has. -/
theorem reduceFold_of {s t : Shape} {α : Type} {axes : List (Fin s.rank)} (h : s.Reduces axes t) (f : α → α → α) (init : α) (x : s.Idx → α)
    (P : α → Prop) (h0 : P init) (hx : ∀ i, P (x i)) (hf : ∀ a b, P a → P b → P (f a b)) (j : t.Idx) : P (reduceFold h f init x j) := by
  unfold reduceFold
  have : ∀ (l : List (Fin s.numel)) (r : α), P r → P (l.foldl (fun r n => f r (x (s.rowMajor.symm n))) r) := by
    intro l
    induction l with
    | nil => intro r hr; exact hr
    | cons a l ih => intro r hr; exact ih _ (hf _ _ hr (hx _))
  exact this _ _ h0

/-- `pick` is not negative. -/
theorem pick_nonneg (la : FVec F S16x16 .f32) (y : S16x1.Idx) : 0 ≤ (pick la y).toInt := by
  unfold pick
  refine reduceFold_of _ _ _ _ (fun a : BitVec 32 => 0 ≤ a.toInt) (by decide) (fun i => ?_) (fun a b ha hb => ?_) _
  · show 0 ≤ (Scalar.select _ (BitVec.ofNat 32 (0 * 16 + (i 1).val)) 16#32).toInt
    have hi : (i 1).val < 16 := (i 1).isLt
    unfold Scalar.select
    split
    · have : ∀ n : Fin 16, 0 ≤ (BitVec.ofNat 32 (0 * 16 + n.val)).toInt := by decide
      exact this ⟨_, hi⟩
    · decide
  · unfold IntOp.minsi; split <;> assumption

/-- `perm`'s first column is the first batch element's. -/
theorem perm_left (xs : Vec F S16x2048 .f32) (Wq : Vec F S1024x1024 .f32) (bq : Vec F S1x1024 .f32) (Wk : Vec F S1024x1024 .f32)
    (bk : Vec F S1x1024 .f32) (y : S16x2.Idx) (h : (y 1).val = 0) :
    perm xs Wq bq Wk bk y
      = column (View.ld xs (Rect.unit (s := S16x2048) ![0, 0] S16x1024.size inb_S16x2048_S16x1024_0_0)) Wq bq Wk bk (ix2 (y 0 : Fin 16) (0 : Fin 1) : S16x1.Idx) := by
  unfold perm
  exact concatenate_pair_apply_left (s₁ := S16x1) (s₂ := S16x1) (t := S16x2) (1 : Fin 2) _ _ _ y rfl (ix2 (y 0 : Fin 16) (0 : Fin 1) : S16x1.Idx) (by
      intro b; match b with | ⟨0, _⟩ => rfl | ⟨1, _⟩ => exact h.symm)

/-- `perm`'s second column is the second's. -/
theorem perm_right (xs : Vec F S16x2048 .f32) (Wq : Vec F S1024x1024 .f32) (bq : Vec F S1x1024 .f32) (Wk : Vec F S1024x1024 .f32)
    (bk : Vec F S1x1024 .f32) (y : S16x2.Idx) (h : (y 1).val = 1) :
    perm xs Wq bq Wk bk y
      = column (View.ld xs (Rect.unit (s := S16x2048) ![0, 1024] S16x1024.size inb_S16x2048_S16x1024_0_1024)) Wq bq Wk bk (ix2 (y 0 : Fin 16) (0 : Fin 1) : S16x1.Idx) := by
  unfold perm
  exact concatenate_pair_apply_right (s₁ := S16x1) (s₂ := S16x1) (t := S16x2) (1 : Fin 2) _ _ _ y rfl rfl (ix2 (y 0 : Fin 16) (0 : Fin 1) : S16x1.Idx) (by
      intro b hb; match b with | ⟨0, _⟩ => rfl | ⟨1, _⟩ => exact absurd rfl hb) (by
      show 0 + 1 = (y 1).val
      omega)

/-- `perm` is not negative. -/
theorem perm_nonneg (xs : Vec F S16x2048 .f32) (Wq : Vec F S1024x1024 .f32) (bq : Vec F S1x1024 .f32) (Wk : Vec F S1024x1024 .f32)
    (bk : Vec F S1x1024 .f32) (y : S16x2.Idx) : 0 ≤ (perm xs Wq bq Wk bk y).toInt := by
  have h2 : (y 1).val < 2 := (y 1).isLt
  by_cases h : (y 1).val = 0
  · rw [perm_left _ _ _ _ _ y h]; exact pick_nonneg _ _
  · rw [perm_right _ _ _ _ _ y (by omega)]; exact pick_nonneg _ _

/-- A word that is not negative, brought to at most fifteen, is below sixteen. -/
theorem clip_lt (a : BitVec 32) (h : 0 ≤ a.toInt) : (IntOp.minsi a 15#32).toNat < 16 := by
  unfold IntOp.minsi
  split
  · rename_i hlt
    have : a.toInt < 15 := by simpa [BitVec.slt] using hlt
    have e := BitVec.toInt_eq_toNat_cond a
    have hl := a.isLt
    split at e <;> omega
  · decide

end Cert.KernelIdeal.Perm

end
-- ==== Proof.KernelIdeal.Vals.lean ====
/- The buffers' contents between the program's steps, and the table the attention call is given: at launch, after the host
   reshapes, after the permutation call, after the clip, after the attention call. -/
module

public import proofs.«01_k».proof.Proof.KernelIdeal.Region0
public import proofs.«01_k».proof.Proof.KernelIdeal.Region1
public import proofs.«01_k».proof.Proof.KernelIdeal.Range
public import proofs.«01_k».proof.Proof.Gen.KernelIdeal.Regions
public import Idealize.ShloMosaic.Lib.Pipeline.FrameSuffix
public import Idealize.ShloMosaic.Lib.Pipeline.ValueKit.Geometry
public import Idealize.ShloMosaic.Lib.StableHlo.Run

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]
variable (m : (ℓ : Loc nD τ sig) → Buf (Elt F) ℓ)

/-- After the host reshapes. -/
abbrev W1 (c : Dev nD) : Valuation τ sig (Elt F) := V1 m c
/-- Read at a reference. -/
abbrev at1 (c : Dev nD) (b : Ref sig .tc) : Buf (Elt F) ((c : Thread nD τ).loc b) := W1 m c b
/-- The permutation call's proof data. -/
abbrev D0 (c : Dev nD) : Dat τ (Elt F) Unit ℕ (UR sig nD τ) ℕ cfg0 c := Region0.dat (at1 m) c
/-- After the permutation call. -/
def W2 (c : Dev nD) : Valuation τ sig (Elt F) := Pipeline.withArrays spec0 c (W1 m c) fun w => (D0 m c).arrAt w cfg0.N
/-- After the clip. -/
def W3 (c : Dev nD) : Valuation τ sig (Elt F) := StableHlo.after hostOps1 (W2 m c)
abbrev at3 (c : Dev nD) (b : Ref sig .tc) : Buf (Elt F) ((c : Thread nD τ).loc b) := W3 m c b

theorem W2_arr (c : Dev nD) (w : Fin cfg0.W) : W2 m c (Proc.devRef .tc (Pipeline.arrRef spec0 w)) = (D0 m c).arrAt w cfg0.N :=
  Pipeline.withArrays_arr spec0 winFacts0.arr_inj c _ _ w

theorem W2_of_ne (c : Dev nD) (b : Ref sig .tc) (hb : ∀ w, Pipeline.arrRef spec0 w ≠ b) : W2 m c b = W1 m c b :=
  Pipeline.withArrays_of_ne spec0 c _ _ b hb

theorem W3_of (c : Dev nD) (r : Ref sig .tc) (h : r ∉ hostOps1_W) : W3 m c r = W2 m c r :=
  StableHlo.after_of_writes_sub hostOps1 _ hostOps1_writes h

/-- The clipped table. -/
theorem W3_table (c : Dev nD) :
    W3 m c main_v6 = minsi (W2 m c main_v4_0) (fun _ => 15#32) := by
  unfold W3
  simp only [hostOps1, StableHlo.after_cons, StableHlo.after_nil]
  rw [StableHlo.binary_result, StableHlo.unary_result_ne (h := by decide), StableHlo.nullary_result_ne (h := by decide),
    StableHlo.unary_result, StableHlo.nullary_result]
  rfl

/-- The permutation call leaves the permutation. -/
theorem W2_perm (c : Dev nD) : W2 m c main_v4_0 = Region0.perm (at1 m) c := by
  refine (W2_arr m c 9).trans ?_
  refine (D0 m c).arrAt_eq_of_covers 9 _ (by decide +kernel) fun t hf y => ?_
  blk_simp
  rw [Region0.after_9]
  refine congrArg (Region0.perm (at1 m) c) (funext fun a => Fin.ext ?_)
  exact ((cfg0.win 9).rect_emb_val_of_index_zero t a (by fin_cases a <;> rfl) y).symm

/-- Every entry of the table names one of the sixteen blocks. -/
theorem W3_lt (c : Dev nD) (y : S16x2.Idx) : (W3 m c main_v6 y : BitVec 32).toNat < 16 := by
  rw [W3_table, W2_perm]
  exact Perm.clip_lt _ (Perm.perm_nonneg _ _ _ _ _ y)

/-- A block of 256 rows named by a number below sixteen lies in the array, in whole words. -/
theorem block_ok (v : BitVec 32) (hv : v.toNat < 16) :
    ∃ h : (∀ a, ((![v.toNat, 0] : Fin 2 → Nat) a + 1) * S256x1024.size a ≤ S4096x1024.size a),
      EltTy.bits .bf16 = 32 ∨ (Rect.block (s := S4096x1024) S256x1024.size ![v.toNat, 0] h).WholeWords (EltTy.packing .bf16) := by
  have key : ∀ n : Fin 16, ∃ h : (∀ a, ((![n.val, 0] : Fin 2 → Nat) a + 1) * S256x1024.size a ≤ S4096x1024.size a),
      EltTy.bits .bf16 = 32 ∨ (Rect.block (s := S4096x1024) S256x1024.size ![n.val, 0] h).WholeWords (EltTy.packing .bf16) := by decide +kernel
  exact key ⟨v.toNat, hv⟩

/-- So every block the attention call fetches lies in its array. -/
theorem ok : ok1 (F := F) fun j => W3 m 0 (pre1.ref j) :=
  ⟨fun _ => block_ok _ (W3_lt m 0 _), fun _ => block_ok _ (W3_lt m 0 _)⟩

/-- The attention call's table. -/
def adm1 : (pcfg1 (F := F)).Adm := ⟨fun j => W3 m 0 (pre1.ref j), ok m⟩

/-- The attention call's proof data. -/
abbrev D1 (c : Dev nD) : Dat τ (Elt F) Unit ℕ (UR sig nD τ) ℕ (cfg1 (adm1 m)) c := Region1.dat (at3 m) (adm1 m) c
/-- After the attention call. -/
def W4 (c : Dev nD) : Valuation τ sig (Elt F) := Pipeline.withArrays spec1 c (W3 m c) fun w => (D1 m c).arrAt w (cfg1 (adm1 m)).N

theorem W4_arr (c : Dev nD) (w : Fin 4) : W4 m c (Proc.devRef .tc (Pipeline.arrRef spec1 w)) = (D1 m c).arrAt w (cfg1 (adm1 m)).N :=
  Pipeline.withArrays_arr spec1 winFacts1.arr_inj c _ _ w

theorem W4_of_ne (c : Dev nD) (b : Ref sig .tc) (hb : ∀ w, Pipeline.arrRef spec1 w ≠ b) : W4 m c b = W3 m c b :=
  Pipeline.withArrays_of_ne spec1 c _ _ b hb

end Cert.KernelIdeal.Launch

end
-- ==== Proof.KernelIdeal.Launch.lean ====
/- The run of the whole program: the host reshapes, the permutation call, the clip and the attention call as segments,
   and what is in memory after the last one. -/
module

public import proofs.«01_k».proof.Proof.KernelIdeal.Vals
public import Idealize.ShloMosaic.Lib.Pipeline.Kit
public import Idealize.ShloMosaic.Lib.Pipeline.Regions

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables of the two calls. -/
abbrev adm : (p : Fin 2) → (pcfgs (F := F) p).Adm
  | ⟨0, _⟩ => cfg0.toPCfg_adm
  | ⟨1, _⟩ => adm1 m
  | ⟨_ + 2, h⟩ => absurd h (Nat.not_lt.2 (Nat.le_add_left _ _))

/-- The proof data of the two calls. -/
abbrev pdats : (p : Fin 2) → (c : Dev nD) → Dat τ (Elt F) Unit ℕ (UR sig nD τ) ℕ (Pipeline.pin (pcfgs (F := F)) (adm m) p) c
  | ⟨0, _⟩ => D0 m
  | ⟨1, _⟩ => D1 m
  | ⟨_ + 2, h⟩ => absurd h (Nat.not_lt.2 (Nat.le_add_left _ _))

abbrev L : GSem nD τ sig → Finset Unit := fun _ => ∅
abbrev lv : GSem nD τ sig → Unit → ℕ := fun _ _ => 0

/-- What rides along beside the buffers. -/
abbrev R (c : Dev nD) : sProp 𝕄 := iprop(∃ W, owes (c : Thread nD τ) (0 : CellTallies nD τ sig Unit) W)

/-- The unscoped buffers at `V`, and what rides along. -/
abbrev state (V : (c : Dev nD) → Valuation τ sig (Elt F)) (c : Dev nD) : sProp 𝕄 :=
  iprop(StableHlo.held (c : Thread nD τ) (ucRefs τ sig) (V c) ∗ R (F := F) c)

/-- A host stretch. -/
abbrev host0 : HostSeg (Ix := Unit) (Name := ℕ) (U := UR sig nD τ) (Lvl := ℕ) (pcfgs (F := F)) defs₀ Variants.none L lv :=
  seg0 m Variants.none L lv fun _ => R
abbrev host1 : HostSeg (Ix := Unit) (Name := ℕ) (U := UR sig nD τ) (Lvl := ℕ) (pcfgs (F := F)) defs₀ Variants.none L lv :=
  HostSeg.ofOps _ _ _ _ _ (ucRefs τ sig) hostOps1
    (fun op h => Pipeline.sub_ucRefs op ((List.forall_iff_forall_mem.mp hostOps1_sub) op h))
    (fun op h => (List.forall_iff_forall_mem.mp hostOps1_fresh) op h) (W2 m) R

/-- The kernels use no semaphores of their own. -/
abbrev noSem : Fin 0 → SemLoc sig := Fin.elim0

theorem held_eq (c : Dev nD) (V : Valuation τ sig (Elt F)) :
    (StableHlo.held (c : Thread nD τ) (ucRefs τ sig) V : sProp 𝕄) = unscopedBufs c fun b => V b :=
  (Pipeline.unscopedBufs_held c V).symm

theorem noSems (c : Dev nD) : (Pipeline.ownSems0 (Ix := Unit) (Name := ℕ) (U := UR sig nD τ) (Lvl := ℕ) (Val := Elt F) (τ := τ) noSem c : sProp 𝕄)
    = BI.emp := by
  unfold Pipeline.ownSems0
  rw [show (Finset.univ : Finset (Fin 0)) = ∅ from rfl, BI.bigSep_empty]

set_option backward.isDefEq.respectTransparency.types false in
/-- The permutation call's arrays after it, and the buffers it never touched, are the unscoped buffers after it. -/
theorem exit0 (c : Dev nD) : iprop((D0 m c).arrays ((D0 m c).arrAt · cfg0.N) ∗ Pipeline.unscopedRest spec0 c (at1 m c))
    ⊢ (StableHlo.held (c : Thread nD τ) (ucRefs τ sig) (W2 m c) : sProp 𝕄) := by
  rw [held_eq, Pipeline.unscopedBufs_split (Pipeline.pin (pcfgs (F := F)) (adm m)) 0 winFacts0.arr_unscoped winFacts0.arr_inj c (fun b => W2 m c b)]
  have h := Pipeline.arrays_eq (Pipeline.pin (pcfgs (F := F)) (adm m)) (pdats m) 0 c arr_whole0
    ((D0 m c).share_full fun _ => rfl) ((D0 m c).arrAt · cfg0.N)
  have h2 := Pipeline.unscopedRestP_withArrays (Ix := Unit) (Name := ℕ) (U := UR sig nD τ) (Lvl := ℕ) Pipeline.Prefetch.none spec0 c (W1 m c) fun w => (D0 m c).arrAt w cfg0.N
  rw [Pipeline.unscopedRestP_none, Pipeline.unscopedRestP_none] at h2
  have h3 : (Pipeline.unscopedRest spec0 c (at1 m c) : sProp 𝕄) = Pipeline.unscopedRest spec0 c fun b => W2 m c b := by
    unfold W2; exact h2.symm
  rw [h3]
  refine BIClass.sep_mono ?_ .rfl
  refine (Entails.of_eq h).trans (Entails.of_eq (bigSep_congr fun w _ => ?_))
  exact congrArg _ (W2_arr m c w).symm

set_option backward.isDefEq.respectTransparency.types false in
/-- The permutation call. -/
def reg0 : RegionSeg (pcfgs (F := F)) (adm m) (pdats m) () defs₀ Variants.none L lv 0 where
  win := (launch0 (F := F)).win.to₀
  block_pos := (launch0 (F := F)).block_pos
  stage_whole := (launch0 (F := F)).stage_whole
  K := Fin 0
  osem := noSem
  ho := (by decide : Pipeline.OwnSemFacts spec0 noSem)
  hbody c := (Region0.body_obligation (at1 m) c).loose
  hwaits := Pipeline.hwaits_of_owed_zero _ _ _ _ L lv 0 fun _ _ => rfl
  pre := state (W1 m)
  post := state (W2 m)
  X _ := BI.emp
  Y _ := BI.emp
  Z c := Pipeline.unscopedRest spec0 c (at1 m c)
  hentry c := by
    have hsplit := Pipeline.arrays_of_unscopedBufs (p := 0) (pcfgs (F := F)) (adm m) (pdats m) winFacts0 arr_whole0 c
      ((D0 m c).share_full fun _ => rfl) (at1 m c) (Region0.A_eq (at1 m) c)
    rw [noSems]
    unfold state
    rw [held_eq]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m 0 c).Φ 0 = iprop(Region0.scratch (at1 m) c 0 ∗ Region0.others c) from rfl]
    iintro ⟨-, -, Hr⟩
    ihave H := (Entails.of_eq (Region0.scopedRest_eq (F := F) c)) $$ Hr
    icases H with ⟨⟨%xs, H⟩, Ho⟩
    isplitl [H]
    · iexists xs
      isplitr; · ipureintro; exact fun y h => absurd h (Nat.not_lt_zero _)
      rw [owns_whole]; iexact H
    iexact Ho
  hout c := by
    rw [noSems, show (pdats m 0 c).Φ (Fin.last (Pipeline.pin pcfgs (adm m) 0).N) = iprop(Region0.scratch (at1 m) c cfg0.N ∗ Region0.others c) from rfl]
    iintro ⟨⟨%xs, -, H⟩, Ho⟩
    isplitr; · iempintro
    isplitr; · iempintro
    iapply (Entails.of_eq (Region0.scopedRest_eq (F := F) c).symm)
    isplitl [H]
    · iexists xs
      ihave H' := (Entails.of_eq (owns_whole (c : Thread nD τ) cc0_scratch0 fullShare xs)) $$ H
      iexact H'
    iexact Ho
  hexit c := by
    iintro ⟨Ha, HO, -, HZ⟩
    imodintro
    isplitr [HO]
    · iapply (exit0 m c)
      isplitl [Ha] <;> iassumption
    · unfold Pipeline.Dat.owesAt Pipeline.owesWithin
      icases HO with ⟨%W, -, HO⟩; iexists W; iexact HO

/-- The table is the clipped permutation's buffer. -/
theorem table_eq (c : Dev nD) : (fun k => at3 m c (pre1.ref k)) = (adm1 m).1 := by
  obtain rfl : c = 0 := Subsingleton.elim _ _
  rfl

set_option backward.isDefEq.respectTransparency.types false in
/-- The attention call's arrays and table after it, and the buffers it never touched, are the unscoped buffers after it. -/
theorem exit1 (c : Dev nD) : iprop((D1 m c).arrays ((D1 m c).arrAt · (cfg1 (adm1 m)).N)
      ∗ Region1.tables (adm1 m) c ∗ Pipeline.unscopedRestP pre1 spec1 c (at3 m c))
    ⊢ (StableHlo.held (c : Thread nD τ) (ucRefs τ sig) (W4 m c) : sProp 𝕄) := by
  rw [held_eq, Pipeline.unscopedBufs_split (Pipeline.pin (pcfgs (F := F)) (adm m)) 1 winFacts1.arr_unscoped winFacts1.arr_inj c (fun b => W4 m c b)]
  have h := Pipeline.arrays_eq (Pipeline.pin (pcfgs (F := F)) (adm m)) (pdats m) 1 c arr_whole1
    ((D1 m c).share_full fun _ => rfl) ((D1 m c).arrAt · (cfg1 (adm1 m)).N)
  have h2 := Pipeline.unscopedRestP_withArrays (Ix := Unit) (Name := ℕ) (U := UR sig nD τ) (Lvl := ℕ) Pipeline.Prefetch.none spec1 c (W3 m c) fun w => (D1 m c).arrAt w (cfg1 (adm1 m)).N
  rw [Pipeline.unscopedRestP_none, Pipeline.unscopedRestP_none, Pipeline.unscopedRest_split preFacts1 c (fun b => W3 m c b), table_eq] at h2
  refine BIClass.sep_mono ?_ (Entails.of_eq h2.symm)
  refine (Entails.of_eq h).trans (Entails.of_eq (bigSep_congr fun w _ => ?_))
  exact congrArg _ (W4_arr m c w).symm

set_option backward.isDefEq.respectTransparency.types false in
/-- The attention call. -/
def reg1 : RegionSeg (pcfgs (F := F)) (adm m) (pdats m) () defs₀ Variants.none L lv 1 where
  win := (launch1 (F := F)).win.to₀
  block_pos := (launch1 (F := F)).block_pos
  stage_whole := (launch1 (F := F)).stage_whole
  K := Fin 0
  osem := noSem
  ho := (by decide : Pipeline.OwnSemFacts spec1 noSem)
  hbody c := (Region1.body_obligation (at3 m) (adm1 m) c).loose
  hwaits := Pipeline.hwaits_of_owed_zero _ _ _ _ L lv 1 fun _ _ => rfl
  pre := state (W3 m)
  post := state (W4 m)
  X _ := BI.emp
  Y c := Region1.tables (adm1 m) c
  Z c := Pipeline.unscopedRestP pre1 spec1 c (at3 m c)
  hentry c := by
    have hsplit := Pipeline.arrays_of_unscopedBufs (p := 1) (pcfgs (F := F)) (adm m) (pdats m) winFacts1 arr_whole1 c
      ((D1 m c).share_full fun _ => rfl) (at3 m c) (Region1.A_eq (at3 m) (adm1 m) c)
    have hrest := Pipeline.unscopedRest_split (Ix := Unit) (Name := ℕ) (U := UR sig nD τ) (Lvl := ℕ) (Val := Elt F) preFacts1 c (at3 m c)
    rw [table_eq] at hrest
    rw [noSems]
    unfold state
    rw [held_eq]
    iintro ⟨⟨Hub, HO⟩, -, -⟩
    ihave H := hsplit $$ Hub
    icases H with ⟨Ha, Hr⟩
    ihave Hr' := (Entails.of_eq hrest) $$ Hr
    icases Hr' with ⟨Ht, Hr⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m 1 c).Φ 0 = iprop(Pipeline.scopedRest spec1 c ∗ Region1.tables (adm1 m) c) from rfl]
    iintro ⟨-, Ht, Hr⟩
    isplitl [Hr] <;> iassumption
  hout c := by
    rw [noSems, show (pdats m 1 c).Φ (Fin.last (Pipeline.pin pcfgs (adm m) 1).N) = iprop(Pipeline.scopedRest spec1 c ∗ Region1.tables (adm1 m) c) from rfl]
    iintro ⟨Hr, Ht⟩
    isplitl [Ht]; · iexact Ht
    isplitr; · iempintro
    iexact Hr
  hexit c := by
    iintro ⟨Ha, HO, HY, HZ⟩
    imodintro
    isplitr [HO]
    · iapply (exit1 m c)
      isplitl [Ha]; · iexact Ha
      isplitl [HY] <;> iassumption
    · unfold Pipeline.Dat.owesAt Pipeline.owesWithin
      icases HO with ⟨%W, -, HO⟩; iexists W; iexact HO

/-- The steps of the program. -/
abbrev steps : List (Seg (pcfgs (F := F)) (adm m) (pdats m) () defs₀ Variants.none L lv) :=
  [.host (host0 m), .region (reg0 m), .host (host1 m), .region (reg1 m)]

/-- What the attention call leaves. -/
theorem last (c : Dev nD) : (reg1 m).post c ⊢ iprop(StableHlo.held (c : Thread nD τ) (ucRefs τ sig) (W4 m c) ∗ ∃ W, owes (c : Thread nD τ) (0 : CellTallies nD τ sig Unit) W) :=
  .rfl

set_option backward.isDefEq.respectTransparency.types false in
/-- Every run ends, with every unscoped buffer at the last valuation and every semaphore at zero. -/
theorem run_all : θ_run defs (onTc (τ := τ) (main (F := F))) ⟨m, fun _ => 0, ρ⟩ fun r =>
    (∀ c : Dev nD, ∀ b : Ref sig .tc, b.isScoped = false → r.2.mem ((c : Thread nD τ).loc b) = W4 m c b) ∧ r.2.sem = fun _ => 0 :=
  Pipeline.θ_run_regions_kit_dev_sems (pcfgs (F := F)) (adm m) (pdats m) () (cellOf_inj (adm m)) emb₁ defs₀ Variants.none L lv m ρ main
    (fun _ => steps m)
    (fun c Q => by
      rewrite [main_chain c, Seg.run_eq_chain,
        show (steps m).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [Seg.pipes_host, Seg.pipes_region, Seg.pipes_nil]; decide) 0 (fun _ _ => rfl) (fun _ => BI.emp)
    (initOf (Pipeline.cells (Pipeline.pin (pcfgs (F := F)) (adm m)) (cellOf_inj (adm m)))
      (Pipeline.launchToks (Pipeline.pin (pcfgs (F := F)) (adm m)) (cellOf_inj (adm m))))
    (by
      rw [ownU_emb₁]
      iintro Hu
      imodintro
      isplitl [Hu]; · iexact Hu
      rw [BI.bigSep_emp_const]
      iempintro)
    (T₀ := state (V0 m)) (Tₙ := fun c => StableHlo.held (c : Thread nD τ) (ucRefs τ sig) (W4 m c))
    (hch := fun c => ⟨.rfl, .rfl, .rfl, .rfl, (last m c)⟩)
    (hinit := by
      refine Pipeline.initEach L lv fun c => ?_
      rw [show unscopedBufs c (fun b => m ((c : Thread nD τ).loc b)) = StableHlo.held (c : Thread nD τ) (ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b : Ref sig .tc, b.isScoped = false → s.mem ((c : Thread nD τ).loc b) = W4 m c b)
    (hfin := fun c s' => by
      unfold StableHlo.held
      iintro ⟨Hh, HSI⟩
      ihave Hr := (pointsTo_read_all (ucRefs τ sig) (fun b => ((c : Thread nD τ).1, b)) (W4 m c) s') $$ [Hh HSI]
      · isplitl [Hh] <;> iassumption
      icases Hr with ⟨%h, HSI⟩
      imodintro
      isplitr
      · ipureintro
        exact fun b hb => h (Proc.devRef .tc b) (Finset.mem_filter.mpr ⟨StableHlo.devRef_mem_tcRefs b, by simpa using hb⟩)
      iexact HSI)
    (hQ := fun _ h hz => ⟨h, funext fun g => hz g (.inr (regions_no_unscoped g.2))⟩)

/-- A buffer no step writes keeps its launch contents. -/
theorem W4_kept (c : Dev nD) (b : Ref sig .tc) (h0 : b ∉ hostOps0_W) (h1 : ∀ w, Pipeline.arrRef spec0 w ≠ b) (h2 : b ∉ hostOps1_W)
    (h3 : ∀ w, Pipeline.arrRef spec1 w ≠ b) : W4 m c b = m ((c : Thread nD τ).loc b) :=
  (W4_of_ne m c b h3).trans ((W3_of m c b h2).trans ((W2_of_ne m c b h1).trans (V1_of m c b h0)))

/-- A buffer the permutation call only reads keeps its launch contents. -/
theorem W4_read (c : Dev nD) (w : Fin cfg0.W) (hw : (cfg0.win w).isOut = false) (h0 : Pipeline.arrRef spec0 w ∉ hostOps0_W)
    (h2 : Pipeline.arrRef spec0 w ∉ hostOps1_W) (h3 : ∀ v, Pipeline.arrRef spec1 v ≠ Pipeline.arrRef spec0 w) :
    W4 m c (Pipeline.arrRef spec0 w) = m ((c : Thread nD τ).loc (Pipeline.arrRef spec0 w)) :=
  (W4_of_ne m c _ h3).trans ((W3_of m c _ h2).trans ((W2_arr m c w).trans
    (((D0 m c).arrAt_in w hw _).trans ((Region0.A_eq (at1 m) c w).trans (V1_of m c _ h0)))))

/-- The run: the result is the attention call's array, the arguments are as launched. -/
theorem run : θ_run defs (onTc (τ := τ) (main (F := F))) ⟨m, fun _ => 0, ρ⟩ fun r => (∀ c : Dev nD,
      r.2.mem ((c : Thread nD τ).loc main_v7) = (D1 m c).arrAt 3 (cfg1 (adm1 m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) ∧ r.2.sem = fun _ => 0 :=
  (θ_run defs _ _).mono (fun r h => ⟨fun c => ⟨
      (h.1 c main_v7 (by decide)).trans (W4_arr m c 3),
      (h.1 c main_arg0 (by decide)).trans (W4_read m c 0 rfl (by decide) (by decide) (by decide)),
      (h.1 c main_arg1 (by decide)).trans (W4_read m c 1 rfl (by decide) (by decide) (by decide)),
      (h.1 c main_arg2 (by decide)).trans (W4_kept m c main_arg2 (by decide) (by decide) (by decide) (by decide)),
      (h.1 c main_arg3 (by decide)).trans (W4_read m c 3 rfl (by decide) (by decide) (by decide)),
      (h.1 c main_arg4 (by decide)).trans (W4_kept m c main_arg4 (by decide) (by decide) (by decide) (by decide)),
      (h.1 c main_arg5 (by decide)).trans (W4_read m c 5 rfl (by decide) (by decide) (by decide)),
      (h.1 c main_arg6 (by decide)).trans (W4_kept m c main_arg6 (by decide) (by decide) (by decide) (by decide)),
      (h.1 c main_arg7 (by decide)).trans (W4_read m c 7 rfl (by decide) (by decide) (by decide)),
      (h.1 c main_arg8 (by decide)).trans (W4_kept m c main_arg8 (by decide) (by decide) (by decide) (by decide))⟩, h.2⟩)
    (run_all m ρ)

end Cert.KernelIdeal.Launch

end
-- ==== Proof.ReferenceIdeal.Ops.lean ====
/- The reference program as a list of its host operations, in order, in windows; each window is the program's own part,
   and no operation leaves the program's buffers or allocates one. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 241 (window `main_part0`). -/
abbrev ops_part0 : List (HloOp τ sig (Elt F)) :=
  [ reshape main_arg0 main_v0 (rfl : (.f32 : EltTy) = .f32) shapeCasts_S4096x2x1024_S16x256x2x1024,
    nullary main_cst (constant S_ .f32 0x00000000#32),
    binary main_v0 main_cst main_v1 ((fun x v => Host.reduceAdd x v reducesTo_S16x256x2x1024_S16x2x1024_d1 h_S_) : (⟨S16x256x2x1024, .f32⟩ : BufTy).Contents (Elt F) → (⟨S_, .f32⟩ : BufTy).Contents (Elt F) → (⟨S16x2x1024, .f32⟩ : BufTy).Contents (Elt F)),
    nullary main_cst_0 (constant S_ .f32 0x43800000#32),
    unary main_cst_0 main_v2 (broadcastInDim S16x2x1024 ![] bcast_S_S16x2x1024 : (⟨S_, .f32⟩ : BufTy).Contents (Elt F) → (⟨S16x2x1024, .f32⟩ : BufTy).Contents (Elt F)),
    binary main_v1 main_v2 main_v3 (Host.divf : (⟨S16x2x1024, .f32⟩ : BufTy).Contents (Elt F) → (⟨S16x2x1024, .f32⟩ : BufTy).Contents (Elt F) → (⟨S16x2x1024, .f32⟩ : BufTy).Contents (Elt F)),
    unary main_v3 main_v4 ((transpose S2x16x1024 [1, 0, 2] · transposes_S16x2x1024_S2x16x1024_1_0_2) : (⟨S16x2x1024, .f32⟩ : BufTy).Contents (Elt F) → (⟨S2x16x1024, .f32⟩ : BufTy).Contents (Elt F)),
    unary main_arg1 main_v5 ((transpose S1024x1024 [1, 0] · transposes_S1024x1024_S1024x1024_1_0) : (⟨S1024x1024, .f32⟩ : BufTy).Contents (Elt F) → (⟨S1024x1024, .f32⟩ : BufTy).Contents (Elt F)),
    binary main_v4 main_v5 main_v6 ((fun l r => Host.dotGeneral dot_S2x16x1024_S1024x1024_S2x16x1024_2_0_01_1_n_n none l r) : (⟨S2x16x1024, .f32⟩ : BufTy).Contents (Elt F) → (⟨S1024x1024, .f32⟩ : BufTy).Contents (Elt F) → (⟨S2x16x1024, .f32⟩ : BufTy).Contents (Elt F)),
    unary main_arg2 main_v7 (broadcastInDim S1x1x1024 ![2] bcast_S1024_S1x1x1024_2 : (⟨S1024, .f32⟩ : BufTy).Contents (Elt F) → (⟨S1x1x1024, .f32⟩ : BufTy).Contents (Elt F)),
    unary main_v7 main_v8 (broadcastInDim S2x16x1024 ![0, 1, 2] bcast_S1x1x1024_S2x16x1024_0_1_2 : (⟨S1x1x1024, .f32⟩ : BufTy).Contents (Elt F) → (⟨S2x16x1024, .f32⟩ : BufTy).Contents (Elt F)),
    binary main_v6 main_v8 main_v9 (addf : (⟨S2x16x1024, .f32⟩ : BufTy).Contents (Elt F) → (⟨S2x16x1024, .f32⟩ : BufTy).Contents (Elt F) → (⟨S2x16x1024, .f32⟩ : BufTy).Contents (Elt F)),
    unary main_arg3 main_v10 ((transpose S1024x1024 [1, 0] · transposes_S1024x1024_S1024x1024_1_0) : (⟨S1024x1024, .f32⟩ : BufTy).Contents (Elt F) → (⟨S1024x1024, .f32⟩ : BufTy).Contents (Elt F)),
    binary main_v4 main_v10 main_v11 ((fun l r => Host.dotGeneral dot_S2x16x1024_S1024x1024_S2x16x1024_2_0_01_1_n_n none l r) : (⟨S2x16x1024, .f32⟩ : BufTy).Contents (Elt F) → (⟨S1024x1024, .f32⟩ : BufTy).Contents (Elt F) → (⟨S2x16x1024, .f32⟩ : BufTy).Contents (Elt F)),
    unary main_arg4 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S2x16x1024 ![0, 1, 2] bcast_S1x1x1024_S2x16x1024_0_1_2 : (⟨S1x1x1024, .f32⟩ : BufTy).Contents (Elt F) → (⟨S2x16x1024, .f32⟩ : BufTy).Contents (Elt F)),
    binary main_v11 main_v13 main_v14 (addf : (⟨S2x16x1024, .f32⟩ : BufTy).Contents (Elt F) → (⟨S2x16x1024, .f32⟩ : BufTy).Contents (Elt F) → (⟨S2x16x1024, .f32⟩ : BufTy).Contents (Elt F)),
    unary main_v14 main_v15 ((transpose S2x1024x16 [0, 2, 1] · transposes_S2x16x1024_S2x1024x16_0_2_1) : (⟨S2x16x1024, .f32⟩ : BufTy).Contents (Elt F) → (⟨S2x1024x16, .f32⟩ : BufTy).Contents (Elt F)),
    binary main_v9 main_v15 main_v16 ((fun l r => Host.dotGeneral dot_S2x16x1024_S2x1024x16_S2x16x16_2_1_1_2_0_0 none l r) : (⟨S2x16x1024, .f32⟩ : BufTy).Contents (Elt F) → (⟨S2x1024x16, .f32⟩ : BufTy).Contents (Elt F) → (⟨S2x16x16, .f32⟩ : BufTy).Contents (Elt F)),
    nullary main_cst_1 (constant S_ .f32 0x42000000#32),
    unary main_cst_1 main_v17 (broadcastInDim S2x16x16 ![] bcast_S_S2x16x16 : (⟨S_, .f32⟩ : BufTy).Contents (Elt F) → (⟨S2x16x16, .f32⟩ : BufTy).Contents (Elt F)),
    binary main_v16 main_v17 main_v18 (Host.divf : (⟨S2x16x16, .f32⟩ : BufTy).Contents (Elt F) → (⟨S2x16x16, .f32⟩ : BufTy).Contents (Elt F) → (⟨S2x16x16, .f32⟩ : BufTy).Contents (Elt F)),
    nullary main_cst_2 (constant S_ .f32 0xFF800000#32),
    binary main_v18 main_cst_2 main_v19 ((fun x v => Host.reduce FloatOps.maximumf x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v19 main_v20 (broadcastInDim S2x16x1 ![0, 1] bcast_S2x16_S2x16x1_0_1 : (⟨S2x16, .f32⟩ : BufTy).Contents (Elt F) → (⟨S2x16x1, .f32⟩ : BufTy).Contents (Elt F)),
    unary main_v20 main_v21 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v18 main_v21 main_v22 (subf : (⟨S2x16x16, .f32⟩ : BufTy).Contents (Elt F) → (⟨S2x16x16, .f32⟩ : BufTy).Contents (Elt F) → (⟨S2x16x16, .f32⟩ : BufTy).Contents (Elt F)),
    unary main_v22 main_v23 (Host.exp : (⟨S2x16x16, .f32⟩ : BufTy).Contents (Elt F) → (⟨S2x16x16, .f32⟩ : BufTy).Contents (Elt F)),
    nullary main_cst_3 (constant S_ .f32 0x00000000#32),
    binary main_v23 main_cst_3 main_v24 ((fun x v => Host.reduceAdd x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v24 main_v25 (broadcastInDim S2x16x1 ![0, 1] bcast_S2x16_S2x16x1_0_1 : (⟨S2x16, .f32⟩ : BufTy).Contents (Elt F) → (⟨S2x16x1, .f32⟩ : BufTy).Contents (Elt F)),
    unary main_v25 main_v26 (Host.log : (⟨S2x16x1, .f32⟩ : BufTy).Contents (Elt F) → (⟨S2x16x1, .f32⟩ : BufTy).Contents (Elt F)),
    binary main_v20 main_v26 main_v27 (addf : (⟨S2x16x1, .f32⟩ : BufTy).Contents (Elt F) → (⟨S2x16x1, .f32⟩ : BufTy).Contents (Elt F) → (⟨S2x16x1, .f32⟩ : BufTy).Contents (Elt F)),
    unary main_v27 main_v28 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v18 main_v28 main_v29 (subf : (⟨S2x16x16, .f32⟩ : BufTy).Contents (Elt F) → (⟨S2x16x16, .f32⟩ : BufTy).Contents (Elt F) → (⟨S2x16x16, .f32⟩ : BufTy).Contents (Elt F)),
    nullary main_cst_4 (constant S_ .f32 0xFF800000#32),
    binary main_v29 main_cst_4 main_v30 ((fun x v => Host.reduce FloatOps.maximumf x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v30 main_v31 (broadcastInDim S2x1x16 ![0, 2] bcast_S2x16_S2x1x16_0_2 : (⟨S2x16, .f32⟩ : BufTy).Contents (Elt F) → (⟨S2x1x16, .f32⟩ : BufTy).Contents (Elt F)),
    unary main_v31 main_v32 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v29 main_v32 main_v33 (subf : (⟨S2x16x16, .f32⟩ : BufTy).Contents (Elt F) → (⟨S2x16x16, .f32⟩ : BufTy).Contents (Elt F) → (⟨S2x16x16, .f32⟩ : BufTy).Contents (Elt F)),
    unary main_v33 main_v34 (Host.exp : (⟨S2x16x16, .f32⟩ : BufTy).Contents (Elt F) → (⟨S2x16x16, .f32⟩ : BufTy).Contents (Elt F)),
    nullary main_cst_5 (constant S_ .f32 0x00000000#32),
    binary main_v34 main_cst_5 main_v35 ((fun x v => Host.reduceAdd x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v35 main_v36 (broadcastInDim S2x1x16 ![0, 2] bcast_S2x16_S2x1x16_0_2 : (⟨S2x16, .f32⟩ : BufTy).Contents (Elt F) → (⟨S2x1x16, .f32⟩ : BufTy).Contents (Elt F)),
    unary main_v36 main_v37 (Host.log : (⟨S2x1x16, .f32⟩ : BufTy).Contents (Elt F) → (⟨S2x1x16, .f32⟩ : BufTy).Contents (Elt F)),
    binary main_v31 main_v37 main_v38 (addf : (⟨S2x1x16, .f32⟩ : BufTy).Contents (Elt F) → (⟨S2x1x16, .f32⟩ : BufTy).Contents (Elt F) → (⟨S2x1x16, .f32⟩ : BufTy).Contents (Elt F)),
    unary main_v38 main_v39 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v29 main_v39 main_v40 (subf : (⟨S2x16x16, .f32⟩ : BufTy).Contents (Elt F) → (⟨S2x16x16, .f32⟩ : BufTy).Contents (Elt F) → (⟨S2x16x16, .f32⟩ : BufTy).Contents (Elt F)),
    nullary main_cst_6 (constant S_ .f32 0xFF800000#32),
    binary main_v40 main_cst_6 main_v41 ((fun x v => Host.reduce FloatOps.maximumf x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v41 main_v42 (broadcastInDim S2x16x1 ![0, 1] bcast_S2x16_S2x16x1_0_1 : (⟨S2x16, .f32⟩ : BufTy).Contents (Elt F) → (⟨S2x16x1, .f32⟩ : BufTy).Contents (Elt F)),
    unary main_v42 main_v43 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v40 main_v43 main_v44 (subf : (⟨S2x16x16, .f32⟩ : BufTy).Contents (Elt F) → (⟨S2x16x16, .f32⟩ : BufTy).Contents (Elt F) → (⟨S2x16x16, .f32⟩ : BufTy).Contents (Elt F)),
    unary main_v44 main_v45 (Host.exp : (⟨S2x16x16, .f32⟩ : BufTy).Contents (Elt F) → (⟨S2x16x16, .f32⟩ : BufTy).Contents (Elt F)),
    nullary main_cst_7 (constant S_ .f32 0x00000000#32),
    binary main_v45 main_cst_7 main_v46 ((fun x v => Host.reduceAdd x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v46 main_v47 (broadcastInDim S2x16x1 ![0, 1] bcast_S2x16_S2x16x1_0_1 : (⟨S2x16, .f32⟩ : BufTy).Contents (Elt F) → (⟨S2x16x1, .f32⟩ : BufTy).Contents (Elt F)),
    unary main_v47 main_v48 (Host.log : (⟨S2x16x1, .f32⟩ : BufTy).Contents (Elt F) → (⟨S2x16x1, .f32⟩ : BufTy).Contents (Elt F)),
    binary main_v42 main_v48 main_v49 (addf : (⟨S2x16x1, .f32⟩ : BufTy).Contents (Elt F) → (⟨S2x16x1, .f32⟩ : BufTy).Contents (Elt F) → (⟨S2x16x1, .f32⟩ : BufTy).Contents (Elt F)),
    unary main_v49 main_v50 (broadcastInDim S2x16x16 ![0, 1, 2] bcast_S2x16x1_S2x16x16_0_1_2 : (⟨S2x16x1, .f32⟩ : BufTy).Contents (Elt F) → (⟨S2x16x16, .f32⟩ : BufTy).Contents (Elt F)) ]

/-- @main's operations 61 … 120 of 241 (window `main_part1`). -/
abbrev ops_part1 : List (HloOp τ sig (Elt F)) :=
  [ binary main_v40 main_v50 main_v51 (subf : (⟨S2x16x16, .f32⟩ : BufTy).Contents (Elt F) → (⟨S2x16x16, .f32⟩ : BufTy).Contents (Elt F) → (⟨S2x16x16, .f32⟩ : BufTy).Contents (Elt F)),
    nullary main_cst_8 (constant S_ .f32 0xFF800000#32),
    binary main_v51 main_cst_8 main_v52 ((fun x v => Host.reduce FloatOps.maximumf x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v52 main_v53 (broadcastInDim S2x1x16 ![0, 2] bcast_S2x16_S2x1x16_0_2 : (⟨S2x16, .f32⟩ : BufTy).Contents (Elt F) → (⟨S2x1x16, .f32⟩ : BufTy).Contents (Elt F)),
    unary main_v53 main_v54 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v51 main_v54 main_v55 (subf : (⟨S2x16x16, .f32⟩ : BufTy).Contents (Elt F) → (⟨S2x16x16, .f32⟩ : BufTy).Contents (Elt F) → (⟨S2x16x16, .f32⟩ : BufTy).Contents (Elt F)),
    unary main_v55 main_v56 (Host.exp : (⟨S2x16x16, .f32⟩ : BufTy).Contents (Elt F) → (⟨S2x16x16, .f32⟩ : BufTy).Contents (Elt F)),
    nullary main_cst_9 (constant S_ .f32 0x00000000#32),
    binary main_v56 main_cst_9 main_v57 ((fun x v => Host.reduceAdd x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v57 main_v58 (broadcastInDim S2x1x16 ![0, 2] bcast_S2x16_S2x1x16_0_2 : (⟨S2x16, .f32⟩ : BufTy).Contents (Elt F) → (⟨S2x1x16, .f32⟩ : BufTy).Contents (Elt F)),
    unary main_v58 main_v59 (Host.log : (⟨S2x1x16, .f32⟩ : BufTy).Contents (Elt F) → (⟨S2x1x16, .f32⟩ : BufTy).Contents (Elt F)),
    binary main_v53 main_v59 main_v60 (addf : (⟨S2x1x16, .f32⟩ : BufTy).Contents (Elt F) → (⟨S2x1x16, .f32⟩ : BufTy).Contents (Elt F) → (⟨S2x1x16, .f32⟩ : BufTy).Contents (Elt F)),
    unary main_v60 main_v61 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v51 main_v61 main_v62 (subf : (⟨S2x16x16, .f32⟩ : BufTy).Contents (Elt F) → (⟨S2x16x16, .f32⟩ : BufTy).Contents (Elt F) → (⟨S2x16x16, .f32⟩ : BufTy).Contents (Elt F)),
    nullary main_cst_10 (constant S_ .f32 0xFF800000#32),
    binary main_v62 main_cst_10 main_v63 ((fun x v => Host.reduce FloatOps.maximumf x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v63 main_v64 (broadcastInDim S2x16x1 ![0, 1] bcast_S2x16_S2x16x1_0_1 : (⟨S2x16, .f32⟩ : BufTy).Contents (Elt F) → (⟨S2x16x1, .f32⟩ : BufTy).Contents (Elt F)),
    unary main_v64 main_v65 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v62 main_v65 main_v66 (subf : (⟨S2x16x16, .f32⟩ : BufTy).Contents (Elt F) → (⟨S2x16x16, .f32⟩ : BufTy).Contents (Elt F) → (⟨S2x16x16, .f32⟩ : BufTy).Contents (Elt F)),
    unary main_v66 main_v67 (Host.exp : (⟨S2x16x16, .f32⟩ : BufTy).Contents (Elt F) → (⟨S2x16x16, .f32⟩ : BufTy).Contents (Elt F)),
    nullary main_cst_11 (constant S_ .f32 0x00000000#32),
    binary main_v67 main_cst_11 main_v68 ((fun x v => Host.reduceAdd x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v68 main_v69 (broadcastInDim S2x16x1 ![0, 1] bcast_S2x16_S2x16x1_0_1 : (⟨S2x16, .f32⟩ : BufTy).Contents (Elt F) → (⟨S2x16x1, .f32⟩ : BufTy).Contents (Elt F)),
    unary main_v69 main_v70 (Host.log : (⟨S2x16x1, .f32⟩ : BufTy).Contents (Elt F) → (⟨S2x16x1, .f32⟩ : BufTy).Contents (Elt F)),
    binary main_v64 main_v70 main_v71 (addf : (⟨S2x16x1, .f32⟩ : BufTy).Contents (Elt F) → (⟨S2x16x1, .f32⟩ : BufTy).Contents (Elt F) → (⟨S2x16x1, .f32⟩ : BufTy).Contents (Elt F)),
    unary main_v71 main_v72 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v62 main_v72 main_v73 (subf : (⟨S2x16x16, .f32⟩ : BufTy).Contents (Elt F) → (⟨S2x16x16, .f32⟩ : BufTy).Contents (Elt F) → (⟨S2x16x16, .f32⟩ : BufTy).Contents (Elt F)),
    nullary main_cst_12 (constant S_ .f32 0xFF800000#32),
    binary main_v73 main_cst_12 main_v74 ((fun x v => Host.reduce FloatOps.maximumf x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v74 main_v75 (broadcastInDim S2x1x16 ![0, 2] bcast_S2x16_S2x1x16_0_2 : (⟨S2x16, .f32⟩ : BufTy).Contents (Elt F) → (⟨S2x1x16, .f32⟩ : BufTy).Contents (Elt F)),
    unary main_v75 main_v76 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v73 main_v76 main_v77 (subf : (⟨S2x16x16, .f32⟩ : BufTy).Contents (Elt F) → (⟨S2x16x16, .f32⟩ : BufTy).Contents (Elt F) → (⟨S2x16x16, .f32⟩ : BufTy).Contents (Elt F)),
    unary main_v77 main_v78 (Host.exp : (⟨S2x16x16, .f32⟩ : BufTy).Contents (Elt F) → (⟨S2x16x16, .f32⟩ : BufTy).Contents (Elt F)),
    nullary main_cst_13 (constant S_ .f32 0x00000000#32),
    binary main_v78 main_cst_13 main_v79 ((fun x v => Host.reduceAdd x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v79 main_v80 (broadcastInDim S2x1x16 ![0, 2] bcast_S2x16_S2x1x16_0_2 : (⟨S2x16, .f32⟩ : BufTy).Contents (Elt F) → (⟨S2x1x16, .f32⟩ : BufTy).Contents (Elt F)),
    unary main_v80 main_v81 (Host.log : (⟨S2x1x16, .f32⟩ : BufTy).Contents (Elt F) → (⟨S2x1x16, .f32⟩ : BufTy).Contents (Elt F)),
    binary main_v75 main_v81 main_v82 (addf : (⟨S2x1x16, .f32⟩ : BufTy).Contents (Elt F) → (⟨S2x1x16, .f32⟩ : BufTy).Contents (Elt F) → (⟨S2x1x16, .f32⟩ : BufTy).Contents (Elt F)),
    unary main_v82 main_v83 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v73 main_v83 main_v84 (subf : (⟨S2x16x16, .f32⟩ : BufTy).Contents (Elt F) → (⟨S2x16x16, .f32⟩ : BufTy).Contents (Elt F) → (⟨S2x16x16, .f32⟩ : BufTy).Contents (Elt F)),
    nullary main_cst_14 (constant S_ .f32 0xFF800000#32),
    binary main_v84 main_cst_14 main_v85 ((fun x v => Host.reduce FloatOps.maximumf x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v85 main_v86 (broadcastInDim S2x16x1 ![0, 1] bcast_S2x16_S2x16x1_0_1 : (⟨S2x16, .f32⟩ : BufTy).Contents (Elt F) → (⟨S2x16x1, .f32⟩ : BufTy).Contents (Elt F)),
    unary main_v86 main_v87 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v84 main_v87 main_v88 (subf : (⟨S2x16x16, .f32⟩ : BufTy).Contents (Elt F) → (⟨S2x16x16, .f32⟩ : BufTy).Contents (Elt F) → (⟨S2x16x16, .f32⟩ : BufTy).Contents (Elt F)),
    unary main_v88 main_v89 (Host.exp : (⟨S2x16x16, .f32⟩ : BufTy).Contents (Elt F) → (⟨S2x16x16, .f32⟩ : BufTy).Contents (Elt F)),
    nullary main_cst_15 (constant S_ .f32 0x00000000#32),
    binary main_v89 main_cst_15 main_v90 ((fun x v => Host.reduceAdd x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v90 main_v91 (broadcastInDim S2x16x1 ![0, 1] bcast_S2x16_S2x16x1_0_1 : (⟨S2x16, .f32⟩ : BufTy).Contents (Elt F) → (⟨S2x16x1, .f32⟩ : BufTy).Contents (Elt F)),
    unary main_v91 main_v92 (Host.log : (⟨S2x16x1, .f32⟩ : BufTy).Contents (Elt F) → (⟨S2x16x1, .f32⟩ : BufTy).Contents (Elt F)),
    binary main_v86 main_v92 main_v93 (addf : (⟨S2x16x1, .f32⟩ : BufTy).Contents (Elt F) → (⟨S2x16x1, .f32⟩ : BufTy).Contents (Elt F) → (⟨S2x16x1, .f32⟩ : BufTy).Contents (Elt F)),
    unary main_v93 main_v94 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v84 main_v94 main_v95 (subf : (⟨S2x16x16, .f32⟩ : BufTy).Contents (Elt F) → (⟨S2x16x16, .f32⟩ : BufTy).Contents (Elt F) → (⟨S2x16x16, .f32⟩ : BufTy).Contents (Elt F)),
    nullary main_cst_16 (constant S_ .f32 0xFF800000#32),
    binary main_v95 main_cst_16 main_v96 ((fun x v => Host.reduce FloatOps.maximumf x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v96 main_v97 (broadcastInDim S2x1x16 ![0, 2] bcast_S2x16_S2x1x16_0_2 : (⟨S2x16, .f32⟩ : BufTy).Contents (Elt F) → (⟨S2x1x16, .f32⟩ : BufTy).Contents (Elt F)),
    unary main_v97 main_v98 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v95 main_v98 main_v99 (subf : (⟨S2x16x16, .f32⟩ : BufTy).Contents (Elt F) → (⟨S2x16x16, .f32⟩ : BufTy).Contents (Elt F) → (⟨S2x16x16, .f32⟩ : BufTy).Contents (Elt F)),
    unary main_v99 main_v100 (Host.exp : (⟨S2x16x16, .f32⟩ : BufTy).Contents (Elt F) → (⟨S2x16x16, .f32⟩ : BufTy).Contents (Elt F)),
    nullary main_cst_17 (constant S_ .f32 0x00000000#32) ]

/-- @main's operations 121 … 150 of 241 (window `main_part2`). -/
abbrev ops_part2_0 : List (HloOp τ sig (Elt F)) :=
  [ binary main_v100 main_cst_17 main_v101 ((fun x v => Host.reduceAdd x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v101 main_v102 (broadcastInDim S2x1x16 ![0, 2] bcast_S2x16_S2x1x16_0_2 : (⟨S2x16, .f32⟩ : BufTy).Contents (Elt F) → (⟨S2x1x16, .f32⟩ : BufTy).Contents (Elt F)),
    unary main_v102 main_v103 (Host.log : (⟨S2x1x16, .f32⟩ : BufTy).Contents (Elt F) → (⟨S2x1x16, .f32⟩ : BufTy).Contents (Elt F)),
    binary main_v97 main_v103 main_v104 (addf : (⟨S2x1x16, .f32⟩ : BufTy).Contents (Elt F) → (⟨S2x1x16, .f32⟩ : BufTy).Contents (Elt F) → (⟨S2x1x16, .f32⟩ : BufTy).Contents (Elt F)),
    unary main_v104 main_v105 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v95 main_v105 main_v106 (subf : (⟨S2x16x16, .f32⟩ : BufTy).Contents (Elt F) → (⟨S2x16x16, .f32⟩ : BufTy).Contents (Elt F) → (⟨S2x16x16, .f32⟩ : BufTy).Contents (Elt F)),
    nullary main_cst_18 (constant S_ .f32 0xFF800000#32),
    binary main_v106 main_cst_18 main_v107 ((fun x v => Host.reduce FloatOps.maximumf x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v107 main_v108 (broadcastInDim S2x16x1 ![0, 1] bcast_S2x16_S2x16x1_0_1 : (⟨S2x16, .f32⟩ : BufTy).Contents (Elt F) → (⟨S2x16x1, .f32⟩ : BufTy).Contents (Elt F)),
    unary main_v108 main_v109 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v106 main_v109 main_v110 (subf : (⟨S2x16x16, .f32⟩ : BufTy).Contents (Elt F) → (⟨S2x16x16, .f32⟩ : BufTy).Contents (Elt F) → (⟨S2x16x16, .f32⟩ : BufTy).Contents (Elt F)),
    unary main_v110 main_v111 (Host.exp : (⟨S2x16x16, .f32⟩ : BufTy).Contents (Elt F) → (⟨S2x16x16, .f32⟩ : BufTy).Contents (Elt F)),
    nullary main_cst_19 (constant S_ .f32 0x00000000#32),
    binary main_v111 main_cst_19 main_v112 ((fun x v => Host.reduceAdd x v reducesTo_S2x16x16_S2x16_d2 h_S_) : (⟨S2x16x16, .f32⟩ : BufTy).Contents (Elt F) → (⟨S_, .f32⟩ : BufTy).Contents (Elt F) → (⟨S2x16, .f32⟩ : BufTy).Contents (Elt F)),
    unary main_v112 main_v113 (broadcastInDim S2x16x1 ![0, 1] bcast_S2x16_S2x16x1_0_1 : (⟨S2x16, .f32⟩ : BufTy).Contents (Elt F) → (⟨S2x16x1, .f32⟩ : BufTy).Contents (Elt F)),
    unary main_v113 main_v114 (Host.log : (⟨S2x16x1, .f32⟩ : BufTy).Contents (Elt F) → (⟨S2x16x1, .f32⟩ : BufTy).Contents (Elt F)),
    binary main_v108 main_v114 main_v115 (addf : (⟨S2x16x1, .f32⟩ : BufTy).Contents (Elt F) → (⟨S2x16x1, .f32⟩ : BufTy).Contents (Elt F) → (⟨S2x16x1, .f32⟩ : BufTy).Contents (Elt F)),
    unary main_v115 main_v116 (broadcastInDim S2x16x16 ![0, 1, 2] bcast_S2x16x1_S2x16x16_0_1_2 : (⟨S2x16x1, .f32⟩ : BufTy).Contents (Elt F) → (⟨S2x16x16, .f32⟩ : BufTy).Contents (Elt F)),
    binary main_v106 main_v116 main_v117 (subf : (⟨S2x16x16, .f32⟩ : BufTy).Contents (Elt F) → (⟨S2x16x16, .f32⟩ : BufTy).Contents (Elt F) → (⟨S2x16x16, .f32⟩ : BufTy).Contents (Elt F)),
    nullary main_cst_20 (constant S_ .f32 0xFF800000#32),
    binary main_v117 main_cst_20 main_v118 ((fun x v => Host.reduce FloatOps.maximumf x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v118 main_v119 (broadcastInDim S2x1x16 ![0, 2] bcast_S2x16_S2x1x16_0_2 : (⟨S2x16, .f32⟩ : BufTy).Contents (Elt F) → (⟨S2x1x16, .f32⟩ : BufTy).Contents (Elt F)),
    unary main_v119 main_v120 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v117 main_v120 main_v121 (subf : (⟨S2x16x16, .f32⟩ : BufTy).Contents (Elt F) → (⟨S2x16x16, .f32⟩ : BufTy).Contents (Elt F) → (⟨S2x16x16, .f32⟩ : BufTy).Contents (Elt F)),
    unary main_v121 main_v122 (Host.exp : (⟨S2x16x16, .f32⟩ : BufTy).Contents (Elt F) → (⟨S2x16x16, .f32⟩ : BufTy).Contents (Elt F)),
    nullary main_cst_21 (constant S_ .f32 0x00000000#32),
    binary main_v122 main_cst_21 main_v123 ((fun x v => Host.reduceAdd x v reducesTo_S2x16x16_S2x16_d1 h_S_) : (⟨S2x16x16, .f32⟩ : BufTy).Contents (Elt F) → (⟨S_, .f32⟩ : BufTy).Contents (Elt F) → (⟨S2x16, .f32⟩ : BufTy).Contents (Elt F)),
    unary main_v123 main_v124 (broadcastInDim S2x1x16 ![0, 2] bcast_S2x16_S2x1x16_0_2 : (⟨S2x16, .f32⟩ : BufTy).Contents (Elt F) → (⟨S2x1x16, .f32⟩ : BufTy).Contents (Elt F)),
    unary main_v124 main_v125 (Host.log : (⟨S2x1x16, .f32⟩ : BufTy).Contents (Elt F) → (⟨S2x1x16, .f32⟩ : BufTy).Contents (Elt F)),
    binary main_v119 main_v125 main_v126 (addf : (⟨S2x1x16, .f32⟩ : BufTy).Contents (Elt F) → (⟨S2x1x16, .f32⟩ : BufTy).Contents (Elt F) → (⟨S2x1x16, .f32⟩ : BufTy).Contents (Elt F)) ]

/-- @main's operations 151 … 180 of 241 (window `main_part2`). -/
abbrev ops_part2_1 : List (HloOp τ sig (Elt F)) :=
  [ unary main_v126 main_v127 (broadcastInDim S2x16x16 ![0, 1, 2] bcast_S2x1x16_S2x16x16_0_1_2 : (⟨S2x1x16, .f32⟩ : BufTy).Contents (Elt F) → (⟨S2x16x16, .f32⟩ : BufTy).Contents (Elt F)),
    binary main_v117 main_v127 main_v128 (subf : (⟨S2x16x16, .f32⟩ : BufTy).Contents (Elt F) → (⟨S2x16x16, .f32⟩ : BufTy).Contents (Elt F) → (⟨S2x16x16, .f32⟩ : BufTy).Contents (Elt F)),
    unary main_v128 main_v129 (Host.exp : (⟨S2x16x16, .f32⟩ : BufTy).Contents (Elt F) → (⟨S2x16x16, .f32⟩ : BufTy).Contents (Elt F)),
    TRef.nullary (TRef.of (T := ⟨S2x16x16, .i32⟩) main_call0_v0) (iotaInDim S2x16x16 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S2x16x16, .f32⟩) main_v129) (TRef.of (T := ⟨S2x16x16, .i32⟩) main_call0_v0) (TRef.of (T := ⟨S_, .f32⟩) main_call0_cst) (TRef.of (T := ⟨S_, .i32⟩) main_call0_c) (TRef.of (T := ⟨S2x16, .f32⟩) main_call0_v1_0) (fun x y u v j => (Host.argReduce reducer_argmax_f32_i32 x y u v reducesTo_S2x16x16_S2x16_d2 h_S_ j).1),
    TRef.quaternary (TRef.of (T := ⟨S2x16x16, .f32⟩) main_v129) (TRef.of (T := ⟨S2x16x16, .i32⟩) main_call0_v0) (TRef.of (T := ⟨S_, .f32⟩) main_call0_cst) (TRef.of (T := ⟨S_, .i32⟩) main_call0_c) (TRef.of (T := ⟨S2x16, .i32⟩) main_v130) (fun x y u v j => (Host.argReduce reducer_argmax_f32_i32 x y u v reducesTo_S2x16x16_S2x16_d2 h_S_ j).2),
    reshape main_arg0 main_v131 (rfl : (.f32 : EltTy) = .f32) shapeCasts_S4096x2x1024_S16x256x2x1024,
    unary main_v131 main_v132 ((transpose S2x16x256x1024 [2, 0, 1, 3] · transposes_S16x256x2x1024_S2x16x256x1024_2_0_1_3) : (⟨S16x256x2x1024, .f32⟩ : BufTy).Contents (Elt F) → (⟨S2x16x256x1024, .f32⟩ : BufTy).Contents (Elt F)),
    unary main_v130 main_v133 (broadcastInDim S2x16x1x1 ![0, 1] bcast_S2x16_S2x16x1x1_0_1 : (⟨S2x16, .i32⟩ : BufTy).Contents (Elt F) → (⟨S2x16x1x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S2x16x1x1, .i32⟩) main_call1_v0) (broadcastInDim S2x16x1x1 ![] bcast_S_S2x16x1x1),
    TRef.binary (TRef.of (T := ⟨S2x16x1x1, .i32⟩) main_v133) (TRef.of (T := ⟨S2x16x1x1, .i32⟩) main_call1_v0) (TRef.of (T := ⟨S2x16x1x1, .i1⟩) main_call1_v1) (cmpi .slt),
    TRef.nullary (TRef.of (T := ⟨S_, .i32⟩) main_call1_c_0) (constantI S_ 32 16#32),
    TRef.unary (TRef.of (T := ⟨S_, .i32⟩) main_call1_c_0) (TRef.of (T := ⟨S2x16x1x1, .i32⟩) main_call1_v2) (broadcastInDim S2x16x1x1 ![] bcast_S_S2x16x1x1),
    TRef.binary (TRef.of (T := ⟨S2x16x1x1, .i32⟩) main_v133) (TRef.of (T := ⟨S2x16x1x1, .i32⟩) main_call1_v2) (TRef.of (T := ⟨S2x16x1x1, .i32⟩) main_call1_v3) addi,
    TRef.ternary (TRef.of (T := ⟨S2x16x1x1, .i1⟩) main_call1_v1) (TRef.of (T := ⟨S2x16x1x1, .i32⟩) main_call1_v3) (TRef.of (T := ⟨S2x16x1x1, .i32⟩) main_v133) (TRef.of (T := ⟨S2x16x1x1, .i32⟩) main_call1_v4) select,
    TRef.reshape (TRef.of (T := ⟨S2x16x1x1, .i32⟩) main_call1_v4) (TRef.of (T := ⟨S2x16x1, .i32⟩) main_call1_v5) (rfl : (.i32 : EltTy) = .i32) shapeCasts_S2x16x1x1_S2x16x1,
    TRef.nullary (TRef.of (T := ⟨S1, .i32⟩) main_call1_c_1) (constantI S1 32 15#32),
    TRef.nullary (TRef.of (T := ⟨S_, .i32⟩) main_call1_c_2) (constantI S_ 32 0#32),
    TRef.unary (TRef.of (T := ⟨S_, .i32⟩) main_call1_c_2) (TRef.of (T := ⟨S2x16x1, .i32⟩) main_call1_v6) (broadcastInDim S2x16x1 ![] bcast_S_S2x16x1),
    TRef.binary (TRef.of (T := ⟨S2x16x1, .i32⟩) main_call1_v5) (TRef.of (T := ⟨S2x16x1, .i32⟩) main_call1_v6) (TRef.of (T := ⟨S2x16x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S2x16x1, .i32⟩) main_call1_v9) (broadcastInDim S2x16x1 ![0, 1, 2] bcast_S1x1x1_S2x16x1_0_1_2),
    TRef.binary (TRef.of (T := ⟨S2x16x1, .i32⟩) main_call1_v5) (TRef.of (T := ⟨S2x16x1, .i32⟩) main_call1_v9) (TRef.of (T := ⟨S2x16x1, .i1⟩) main_call1_v10) (cmpi .sle),
    TRef.binary (TRef.of (T := ⟨S2x16x1, .i1⟩) main_call1_v7) (TRef.of (T := ⟨S2x16x1, .i1⟩) main_call1_v10) (TRef.of (T := ⟨S2x16x1, .i1⟩) main_call1_v11) andi,
    TRef.nullary (TRef.of (T := ⟨S_, .i1⟩) main_call1_c_3) (constantI S_ 1 1#1),
    TRef.binary (TRef.of (T := ⟨S2x16x1, .i1⟩) main_call1_v11) (TRef.of (T := ⟨S_, .i1⟩) main_call1_c_3) (TRef.of (T := ⟨S2x16, .i1⟩) main_call1_v12) (fun x v => Host.reduce IntOp.andi x v reducesTo_S2x16x1_S2x16_d2 h_S_),
    TRef.binary (TRef.of (T := ⟨S2x16x256x1024, .f32⟩) main_v132) (TRef.of (T := ⟨S2x16x1, .i32⟩) main_call1_v5) (TRef.of (T := ⟨S2x16x256x1024, .f32⟩) main_call1_v13) (fun x i => Host.gather gather_S2x16x256x1024_S2x16x1_S2x16x256x1024_23_1_0_0_1_2_112561024 x i) ]

/-- @main's operations 181 … 206 of 241 (window `main_part2`). -/
abbrev ops_part2_2 : List (HloOp τ sig (Elt F)) :=
  [ TRef.unary (TRef.of (T := ⟨S2x16, .i1⟩) main_call1_v12) (TRef.of (T := ⟨S2x16x256x1024, .i1⟩) main_call1_v14) (broadcastInDim S2x16x256x1024 ![0, 1] bcast_S2x16_S2x16x256x1024_0_1),
    TRef.nullary (TRef.of (T := ⟨S_, .f32⟩) main_call1_cst) (constant S_ .f32 0x7FC00000#32),
    TRef.unary (TRef.of (T := ⟨S_, .f32⟩) main_call1_cst) (TRef.of (T := ⟨S2x16x256x1024, .f32⟩) main_call1_v15) (broadcastInDim S2x16x256x1024 ![] bcast_S_S2x16x256x1024),
    TRef.ternary (TRef.of (T := ⟨S2x16x256x1024, .i1⟩) main_call1_v14) (TRef.of (T := ⟨S2x16x256x1024, .f32⟩) main_call1_v13) (TRef.of (T := ⟨S2x16x256x1024, .f32⟩) main_call1_v15) (TRef.of (T := ⟨S2x16x256x1024, .f32⟩) main_v134) select,
    unary main_v134 main_v135 ((transpose S16x256x2x1024 [1, 2, 0, 3] · transposes_S2x16x256x1024_S16x256x2x1024_1_2_0_3) : (⟨S2x16x256x1024, .f32⟩ : BufTy).Contents (Elt F) → (⟨S16x256x2x1024, .f32⟩ : BufTy).Contents (Elt F)),
    reshape main_v135 main_v136 (rfl : (.f32 : EltTy) = .f32) shapeCasts_S16x256x2x1024_S4096x2x1024,
    unary main_arg1 main_v137 ((transpose S1024x1024 [1, 0] · transposes_S1024x1024_S1024x1024_1_0) : (⟨S1024x1024, .f32⟩ : BufTy).Contents (Elt F) → (⟨S1024x1024, .f32⟩ : BufTy).Contents (Elt F)),
    binary main_v136 main_v137 main_v138 ((fun l r => Host.dotGeneral dot_S4096x2x1024_S1024x1024_S4096x2x1024_2_0_01_1_n_n none l r) : (⟨S4096x2x1024, .f32⟩ : BufTy).Contents (Elt F) → (⟨S1024x1024, .f32⟩ : BufTy).Contents (Elt F) → (⟨S4096x2x1024, .f32⟩ : BufTy).Contents (Elt F)),
    unary main_arg2 main_v139 (broadcastInDim S1x1x1024 ![2] bcast_S1024_S1x1x1024_2 : (⟨S1024, .f32⟩ : BufTy).Contents (Elt F) → (⟨S1x1x1024, .f32⟩ : BufTy).Contents (Elt F)),
    unary main_v139 main_v140 (broadcastInDim S4096x2x1024 ![0, 1, 2] bcast_S1x1x1024_S4096x2x1024_0_1_2 : (⟨S1x1x1024, .f32⟩ : BufTy).Contents (Elt F) → (⟨S4096x2x1024, .f32⟩ : BufTy).Contents (Elt F)),
    binary main_v138 main_v140 main_v141 (addf : (⟨S4096x2x1024, .f32⟩ : BufTy).Contents (Elt F) → (⟨S4096x2x1024, .f32⟩ : BufTy).Contents (Elt F) → (⟨S4096x2x1024, .f32⟩ : BufTy).Contents (Elt F)),
    unary main_arg3 main_v142 ((transpose S1024x1024 [1, 0] · transposes_S1024x1024_S1024x1024_1_0) : (⟨S1024x1024, .f32⟩ : BufTy).Contents (Elt F) → (⟨S1024x1024, .f32⟩ : BufTy).Contents (Elt F)),
    binary main_v136 main_v142 main_v143 ((fun l r => Host.dotGeneral dot_S4096x2x1024_S1024x1024_S4096x2x1024_2_0_01_1_n_n none l r) : (⟨S4096x2x1024, .f32⟩ : BufTy).Contents (Elt F) → (⟨S1024x1024, .f32⟩ : BufTy).Contents (Elt F) → (⟨S4096x2x1024, .f32⟩ : BufTy).Contents (Elt F)),
    unary main_arg4 main_v144 (broadcastInDim S1x1x1024 ![2] bcast_S1024_S1x1x1024_2 : (⟨S1024, .f32⟩ : BufTy).Contents (Elt F) → (⟨S1x1x1024, .f32⟩ : BufTy).Contents (Elt F)),
    unary main_v144 main_v145 (broadcastInDim S4096x2x1024 ![0, 1, 2] bcast_S1x1x1024_S4096x2x1024_0_1_2 : (⟨S1x1x1024, .f32⟩ : BufTy).Contents (Elt F) → (⟨S4096x2x1024, .f32⟩ : BufTy).Contents (Elt F)),
    binary main_v143 main_v145 main_v146 (addf : (⟨S4096x2x1024, .f32⟩ : BufTy).Contents (Elt F) → (⟨S4096x2x1024, .f32⟩ : BufTy).Contents (Elt F) → (⟨S4096x2x1024, .f32⟩ : BufTy).Contents (Elt F)),
    unary main_arg5 main_v147 ((transpose S1024x1024 [1, 0] · transposes_S1024x1024_S1024x1024_1_0) : (⟨S1024x1024, .f32⟩ : BufTy).Contents (Elt F) → (⟨S1024x1024, .f32⟩ : BufTy).Contents (Elt F)),
    binary main_v136 main_v147 main_v148 ((fun l r => Host.dotGeneral dot_S4096x2x1024_S1024x1024_S4096x2x1024_2_0_01_1_n_n none l r) : (⟨S4096x2x1024, .f32⟩ : BufTy).Contents (Elt F) → (⟨S1024x1024, .f32⟩ : BufTy).Contents (Elt F) → (⟨S4096x2x1024, .f32⟩ : BufTy).Contents (Elt F)),
    unary main_arg6 main_v149 (broadcastInDim S1x1x1024 ![2] bcast_S1024_S1x1x1024_2 : (⟨S1024, .f32⟩ : BufTy).Contents (Elt F) → (⟨S1x1x1024, .f32⟩ : BufTy).Contents (Elt F)),
    unary main_v149 main_v150 (broadcastInDim S4096x2x1024 ![0, 1, 2] bcast_S1x1x1024_S4096x2x1024_0_1_2 : (⟨S1x1x1024, .f32⟩ : BufTy).Contents (Elt F) → (⟨S4096x2x1024, .f32⟩ : BufTy).Contents (Elt F)),
    binary main_v148 main_v150 main_v151 (addf : (⟨S4096x2x1024, .f32⟩ : BufTy).Contents (Elt F) → (⟨S4096x2x1024, .f32⟩ : BufTy).Contents (Elt F) → (⟨S4096x2x1024, .f32⟩ : BufTy).Contents (Elt F)),
    unary main_v141 main_v152 ((transpose S2x4096x1024 [1, 0, 2] · transposes_S4096x2x1024_S2x4096x1024_1_0_2) : (⟨S4096x2x1024, .f32⟩ : BufTy).Contents (Elt F) → (⟨S2x4096x1024, .f32⟩ : BufTy).Contents (Elt F)),
    reshape main_v152 main_v153 (rfl : (.f32 : EltTy) = .f32) shapeCasts_S2x4096x1024_S2x4096x16x64,
    unary main_v153 main_v154 ((transpose S2x16x4096x64 [0, 2, 1, 3] · transposes_S2x4096x16x64_S2x16x4096x64_0_2_1_3) : (⟨S2x4096x16x64, .f32⟩ : BufTy).Contents (Elt F) → (⟨S2x16x4096x64, .f32⟩ : BufTy).Contents (Elt F)),
    reshape main_v154 main_v155 (rfl : (.f32 : EltTy) = .f32) shapeCasts_S2x16x4096x64_S2x16x16x256x64,
    unary main_v146 main_v156 ((transpose S2x4096x1024 [1, 0, 2] · transposes_S4096x2x1024_S2x4096x1024_1_0_2) : (⟨S4096x2x1024, .f32⟩ : BufTy).Contents (Elt F) → (⟨S2x4096x1024, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 207 … 241 of 241 (window `main_part3`). -/
abbrev ops_part3 : List (HloOp τ sig (Elt F)) :=
  [ reshape main_v156 main_v157 (rfl : (.f32 : EltTy) = .f32) shapeCasts_S2x4096x1024_S2x4096x16x64,
    unary main_v157 main_v158 ((transpose S2x16x4096x64 [0, 2, 1, 3] · transposes_S2x4096x16x64_S2x16x4096x64_0_2_1_3) : (⟨S2x4096x16x64, .f32⟩ : BufTy).Contents (Elt F) → (⟨S2x16x4096x64, .f32⟩ : BufTy).Contents (Elt F)),
    reshape main_v158 main_v159 (rfl : (.f32 : EltTy) = .f32) shapeCasts_S2x16x4096x64_S2x16x16x256x64,
    unary main_v151 main_v160 ((transpose S2x4096x1024 [1, 0, 2] · transposes_S4096x2x1024_S2x4096x1024_1_0_2) : (⟨S4096x2x1024, .f32⟩ : BufTy).Contents (Elt F) → (⟨S2x4096x1024, .f32⟩ : BufTy).Contents (Elt F)),
    reshape main_v160 main_v161 (rfl : (.f32 : EltTy) = .f32) shapeCasts_S2x4096x1024_S2x4096x16x64,
    unary main_v161 main_v162 ((transpose S2x16x4096x64 [0, 2, 1, 3] · transposes_S2x4096x16x64_S2x16x4096x64_0_2_1_3) : (⟨S2x4096x16x64, .f32⟩ : BufTy).Contents (Elt F) → (⟨S2x16x4096x64, .f32⟩ : BufTy).Contents (Elt F)),
    reshape main_v162 main_v163 (rfl : (.f32 : EltTy) = .f32) shapeCasts_S2x16x4096x64_S2x16x16x256x64,
    binary main_v155 main_v159 main_v164 ((fun l r => Host.dotGeneral dot_S2x16x16x256x64_S2x16x16x256x64_S2x16x16x256x256_4_4_3_3_012_012 none l r) : (⟨S2x16x16x256x64, .f32⟩ : BufTy).Contents (Elt F) → (⟨S2x16x16x256x64, .f32⟩ : BufTy).Contents (Elt F) → (⟨S2x16x16x256x256, .f32⟩ : BufTy).Contents (Elt F)),
    nullary main_cst_22 (constant S_ .f32 0x3E000000#32),
    unary main_cst_22 main_v165 (broadcastInDim S2x16x16x256x256 ![] bcast_S_S2x16x16x256x256 : (⟨S_, .f32⟩ : BufTy).Contents (Elt F) → (⟨S2x16x16x256x256, .f32⟩ : BufTy).Contents (Elt F)),
    binary main_v164 main_v165 main_v166 (mulf : (⟨S2x16x16x256x256, .f32⟩ : BufTy).Contents (Elt F) → (⟨S2x16x16x256x256, .f32⟩ : BufTy).Contents (Elt F) → (⟨S2x16x16x256x256, .f32⟩ : BufTy).Contents (Elt F)),
    nullary main_cst_23 (constant S_ .f32 0xFF800000#32),
    binary main_v166 main_cst_23 main_v167 ((fun x v => Host.reduce FloatOps.maximumf x v reducesTo_S2x16x16x256x256_S2x16x16x256_d4 h_S_) : (⟨S2x16x16x256x256, .f32⟩ : BufTy).Contents (Elt F) → (⟨S_, .f32⟩ : BufTy).Contents (Elt F) → (⟨S2x16x16x256, .f32⟩ : BufTy).Contents (Elt F)),
    nullary main_cst_24 (constant S_ .f32 0xFF800000#32),
    unary main_cst_24 main_v168 (broadcastInDim S2x16x16x256 ![] bcast_S_S2x16x16x256 : (⟨S_, .f32⟩ : BufTy).Contents (Elt F) → (⟨S2x16x16x256, .f32⟩ : BufTy).Contents (Elt F)),
    binary main_v168 main_v167 main_v169 (maximumf : (⟨S2x16x16x256, .f32⟩ : BufTy).Contents (Elt F) → (⟨S2x16x16x256, .f32⟩ : BufTy).Contents (Elt F) → (⟨S2x16x16x256, .f32⟩ : BufTy).Contents (Elt F)),
    unary main_v169 main_v170 (broadcastInDim S2x16x16x256x1 ![0, 1, 2, 3] bcast_S2x16x16x256_S2x16x16x256x1_0_1_2_3 : (⟨S2x16x16x256, .f32⟩ : BufTy).Contents (Elt F) → (⟨S2x16x16x256x1, .f32⟩ : BufTy).Contents (Elt F)),
    unary main_v170 main_v171 (broadcastInDim S2x16x16x256x256 ![0, 1, 2, 3, 4] bcast_S2x16x16x256x1_S2x16x16x256x256_0_1_2_3_4 : (⟨S2x16x16x256x1, .f32⟩ : BufTy).Contents (Elt F) → (⟨S2x16x16x256x256, .f32⟩ : BufTy).Contents (Elt F)),
    binary main_v166 main_v171 main_v172 (subf : (⟨S2x16x16x256x256, .f32⟩ : BufTy).Contents (Elt F) → (⟨S2x16x16x256x256, .f32⟩ : BufTy).Contents (Elt F) → (⟨S2x16x16x256x256, .f32⟩ : BufTy).Contents (Elt F)),
    unary main_v172 main_v173 (Host.exp : (⟨S2x16x16x256x256, .f32⟩ : BufTy).Contents (Elt F) → (⟨S2x16x16x256x256, .f32⟩ : BufTy).Contents (Elt F)),
    nullary main_cst_25 (constant S_ .f32 0x00000000#32),
    binary main_v173 main_cst_25 main_v174 ((fun x v => Host.reduceAdd x v reducesTo_S2x16x16x256x256_S2x16x16x256_d4 h_S_) : (⟨S2x16x16x256x256, .f32⟩ : BufTy).Contents (Elt F) → (⟨S_, .f32⟩ : BufTy).Contents (Elt F) → (⟨S2x16x16x256, .f32⟩ : BufTy).Contents (Elt F)),
    unary main_v174 main_v175 (broadcastInDim S2x16x16x256x1 ![0, 1, 2, 3] bcast_S2x16x16x256_S2x16x16x256x1_0_1_2_3 : (⟨S2x16x16x256, .f32⟩ : BufTy).Contents (Elt F) → (⟨S2x16x16x256x1, .f32⟩ : BufTy).Contents (Elt F)),
    unary main_v175 main_v176 (broadcastInDim S2x16x16x256x256 ![0, 1, 2, 3, 4] bcast_S2x16x16x256x1_S2x16x16x256x256_0_1_2_3_4 : (⟨S2x16x16x256x1, .f32⟩ : BufTy).Contents (Elt F) → (⟨S2x16x16x256x256, .f32⟩ : BufTy).Contents (Elt F)),
    binary main_v173 main_v176 main_v177 (Host.divf : (⟨S2x16x16x256x256, .f32⟩ : BufTy).Contents (Elt F) → (⟨S2x16x16x256x256, .f32⟩ : BufTy).Contents (Elt F) → (⟨S2x16x16x256x256, .f32⟩ : BufTy).Contents (Elt F)),
    binary main_v177 main_v163 main_v178 ((fun l r => Host.dotGeneral dot_S2x16x16x256x256_S2x16x16x256x64_S2x16x16x256x64_4_3_3_4_012_012 none l r) : (⟨S2x16x16x256x256, .f32⟩ : BufTy).Contents (Elt F) → (⟨S2x16x16x256x64, .f32⟩ : BufTy).Contents (Elt F) → (⟨S2x16x16x256x64, .f32⟩ : BufTy).Contents (Elt F)),
    reshape main_v178 main_v179 (rfl : (.f32 : EltTy) = .f32) shapeCasts_S2x16x16x256x64_S2x16x4096x64,
    unary main_v179 main_v180 ((transpose S2x4096x16x64 [0, 2, 1, 3] · transposes_S2x16x4096x64_S2x4096x16x64_0_2_1_3) : (⟨S2x16x4096x64, .f32⟩ : BufTy).Contents (Elt F) → (⟨S2x4096x16x64, .f32⟩ : BufTy).Contents (Elt F)),
    reshape main_v180 main_v181 (rfl : (.f32 : EltTy) = .f32) shapeCasts_S2x4096x16x64_S2x4096x1024,
    unary main_v181 main_v182 ((transpose S4096x2x1024 [1, 0, 2] · transposes_S2x4096x1024_S4096x2x1024_1_0_2) : (⟨S2x4096x1024, .f32⟩ : BufTy).Contents (Elt F) → (⟨S4096x2x1024, .f32⟩ : BufTy).Contents (Elt F)),
    unary main_arg7 main_v183 ((transpose S1024x1024 [1, 0] · transposes_S1024x1024_S1024x1024_1_0) : (⟨S1024x1024, .f32⟩ : BufTy).Contents (Elt F) → (⟨S1024x1024, .f32⟩ : BufTy).Contents (Elt F)),
    binary main_v182 main_v183 main_v184 ((fun l r => Host.dotGeneral dot_S4096x2x1024_S1024x1024_S4096x2x1024_2_0_01_1_n_n none l r) : (⟨S4096x2x1024, .f32⟩ : BufTy).Contents (Elt F) → (⟨S1024x1024, .f32⟩ : BufTy).Contents (Elt F) → (⟨S4096x2x1024, .f32⟩ : BufTy).Contents (Elt F)),
    unary main_arg8 main_v185 (broadcastInDim S1x1x1024 ![2] bcast_S1024_S1x1x1024_2 : (⟨S1024, .f32⟩ : BufTy).Contents (Elt F) → (⟨S1x1x1024, .f32⟩ : BufTy).Contents (Elt F)),
    unary main_v185 main_v186 (broadcastInDim S4096x2x1024 ![0, 1, 2] bcast_S1x1x1024_S4096x2x1024_0_1_2 : (⟨S1x1x1024, .f32⟩ : BufTy).Contents (Elt F) → (⟨S4096x2x1024, .f32⟩ : BufTy).Contents (Elt F)),
    binary main_v184 main_v186 main_v187 (addf : (⟨S4096x2x1024, .f32⟩ : BufTy).Contents (Elt F) → (⟨S4096x2x1024, .f32⟩ : BufTy).Contents (Elt F) → (⟨S4096x2x1024, .f32⟩ : BufTy).Contents (Elt F)) ]

/-- @main's 241 operations, in order (a called function's operations stand in its call's place, spelt `TRef.…`). -/
abbrev ops : List (HloOp τ sig (Elt F)) :=
  ops_part0 ++ (ops_part1 ++ (ops_part2 ++ (ops_part3)))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨reshape_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub .., unary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨binary_bufs_sub .., unary_bufs_sub .., unary_bufs_sub .., binary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., binary_bufs_sub .., unary_bufs_sub .., nullary_bufs_sub .., nullary_bufs_sub .., nullary_bufs_sub .., quaternary_bufs_sub .., quaternary_bufs_sub .., reshape_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., nullary_bufs_sub .., unary_bufs_sub .., ternary_bufs_sub .., unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., reshape_bufs_sub .., unary_bufs_sub ..⟩
set_option maxRecDepth 8192 in
theorem ops_part2_2_fresh : (ops_part2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., unary_bufs_sub .., reshape_bufs_sub .., unary_bufs_sub .., unary_bufs_sub .., binary_bufs_sub .., unary_bufs_sub .., unary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part2, List.mem_append, or_assoc] at h
    rcases h with h | h | h | h | h | h
    exacts [List.forall_iff_forall_mem.mp ops_part0_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part2, List.mem_append, or_assoc] at h
    rcases h with h | h | h | h | h | h
    exacts [List.forall_iff_forall_mem.mp ops_part0_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

end Cert.ReferenceIdeal.Value

end
-- ==== Proof.ReferenceIdeal.Run.lean ====
/- The reference program's run read back, window by window: every weakly fair execution ends with the result at the
   operations' composed term of the arguments' contents at launch, and the arguments unchanged. Intermediate arrays used
   more than once, or long, have a name `res_‹buffer›`. -/
module

public import proofs.«01_k».proof.Proof.ReferenceIdeal.Ops

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v4`'s composed term of the arguments (named: it is used 2 times). -/
def res_main_v4 (V0 : Valuation τ sig (Elt F)) : (Proc.devRef .tc main_v4 : DevRef τ sig).ty.Contents (Elt F) :=
  transpose S2x16x1024 [1, 0, 2] (Host.divf (Host.reduceAdd (shapeCast _ (V0 (Proc.devRef .tc main_arg0)) shapeCasts_S4096x2x1024_S16x256x2x1024) (constant S_ .f32 0x00000000#32) reducesTo_S16x256x2x1024_S16x2x1024_d1 h_S_) (broadcastInDim S16x2x1024 ![] bcast_S_S16x2x1024 (constant S_ .f32 0x43800000#32))) transposes_S16x2x1024_S2x16x1024_1_0_2

set_option maxRecDepth 8192 in
/-- `main_v18`'s composed term of the arguments (named: it is used 3 times). -/
def res_main_v18 (V0 : Valuation τ sig (Elt F)) : (Proc.devRef .tc main_v18 : DevRef τ sig).ty.Contents (Elt F) :=
  Host.divf (Host.dotGeneral dot_S2x16x1024_S2x1024x16_S2x16x16_2_1_1_2_0_0 none (addf (Host.dotGeneral dot_S2x16x1024_S1024x1024_S2x16x1024_2_0_01_1_n_n none (res_main_v4 V0) (transpose S1024x1024 [1, 0] (V0 (Proc.devRef .tc main_arg1)) transposes_S1024x1024_S1024x1024_1_0)) (broadcastInDim S2x16x1024 ![0, 1, 2] bcast_S1x1x1024_S2x16x1024_0_1_2 (broadcastInDim S1x1x1024 ![2] bcast_S1024_S1x1x1024_2 (V0 (Proc.devRef .tc main_arg2))))) (transpose S2x1024x16 [0, 2, 1] (addf (Host.dotGeneral dot_S2x16x1024_S1024x1024_S2x16x1024_2_0_01_1_n_n none (res_main_v4 V0) (transpose S1024x1024 [1, 0] (V0 (Proc.devRef .tc main_arg3)) transposes_S1024x1024_S1024x1024_1_0)) (broadcastInDim S2x16x1024 ![0, 1, 2] bcast_S1x1x1024_S2x16x1024_0_1_2 (broadcastInDim S1x1x1024 ![2] bcast_S1024_S1x1x1024_2 (V0 (Proc.devRef .tc main_arg4))))) transposes_S2x16x1024_S2x1024x16_0_2_1)) (broadcastInDim S2x16x16 ![] bcast_S_S2x16x16 (constant S_ .f32 0x42000000#32))

set_option maxRecDepth 8192 in
/-- `main_v20`'s composed term of the arguments (named: it is used 2 times). -/
def res_main_v20 (V0 : Valuation τ sig (Elt F)) : (Proc.devRef .tc main_v20 : DevRef τ sig).ty.Contents (Elt F) :=
  broadcastInDim S2x16x1 ![0, 1] bcast_S2x16_S2x16x1_0_1 (Host.reduce FloatOps.maximumf (res_main_v18 V0) (constant S_ .f32 0xFF800000#32) reducesTo_S2x16x16_S2x16_d2 h_S_)

set_option maxRecDepth 8192 in
/-- `main_v29`'s composed term of the arguments (named: it is used 3 times). -/
def res_main_v29 (V0 : Valuation τ sig (Elt F)) : (Proc.devRef .tc main_v29 : DevRef τ sig).ty.Contents (Elt F) :=
  subf (res_main_v18 V0) (broadcastInDim S2x16x16 ![0, 1, 2] bcast_S2x16x1_S2x16x16_0_1_2 (addf (res_main_v20 V0) (Host.log (broadcastInDim S2x16x1 ![0, 1] bcast_S2x16_S2x16x1_0_1 (Host.reduceAdd (Host.exp (subf (res_main_v18 V0) (broadcastInDim S2x16x16 ![0, 1, 2] bcast_S2x16x1_S2x16x16_0_1_2 (res_main_v20 V0)))) (constant S_ .f32 0x00000000#32) reducesTo_S2x16x16_S2x16_d2 h_S_)))))

set_option maxRecDepth 8192 in
/-- `main_v31`'s composed term of the arguments (named: it is used 2 times). -/
def res_main_v31 (V0 : Valuation τ sig (Elt F)) : (Proc.devRef .tc main_v31 : DevRef τ sig).ty.Contents (Elt F) :=
  broadcastInDim S2x1x16 ![0, 2] bcast_S2x16_S2x1x16_0_2 (Host.reduce FloatOps.maximumf (res_main_v29 V0) (constant S_ .f32 0xFF800000#32) reducesTo_S2x16x16_S2x16_d1 h_S_)

set_option maxRecDepth 8192 in
/-- `main_v40`'s composed term of the arguments (named: it is used 3 times). -/
def res_main_v40 (V0 : Valuation τ sig (Elt F)) : (Proc.devRef .tc main_v40 : DevRef τ sig).ty.Contents (Elt F) :=
  subf (res_main_v29 V0) (broadcastInDim S2x16x16 ![0, 1, 2] bcast_S2x1x16_S2x16x16_0_1_2 (addf (res_main_v31 V0) (Host.log (broadcastInDim S2x1x16 ![0, 2] bcast_S2x16_S2x1x16_0_2 (Host.reduceAdd (Host.exp (subf (res_main_v29 V0) (broadcastInDim S2x16x16 ![0, 1, 2] bcast_S2x1x16_S2x16x16_0_1_2 (res_main_v31 V0)))) (constant S_ .f32 0x00000000#32) reducesTo_S2x16x16_S2x16_d1 h_S_)))))

set_option maxRecDepth 8192 in
/-- `main_v42`'s composed term of the arguments (named: it is used 2 times). -/
def res_main_v42 (V0 : Valuation τ sig (Elt F)) : (Proc.devRef .tc main_v42 : DevRef τ sig).ty.Contents (Elt F) :=
  broadcastInDim S2x16x1 ![0, 1] bcast_S2x16_S2x16x1_0_1 (Host.reduce FloatOps.maximumf (res_main_v40 V0) (constant S_ .f32 0xFF800000#32) reducesTo_S2x16x16_S2x16_d2 h_S_)

set_option maxRecDepth 8192 in
/-- `main_v51`'s composed term of the arguments (named: it is used 3 times). -/
def res_main_v51 (V0 : Valuation τ sig (Elt F)) : (Proc.devRef .tc main_v51 : DevRef τ sig).ty.Contents (Elt F) :=
  subf (res_main_v40 V0) (broadcastInDim S2x16x16 ![0, 1, 2] bcast_S2x16x1_S2x16x16_0_1_2 (addf (res_main_v42 V0) (Host.log (broadcastInDim S2x16x1 ![0, 1] bcast_S2x16_S2x16x1_0_1 (Host.reduceAdd (Host.exp (subf (res_main_v40 V0) (broadcastInDim S2x16x16 ![0, 1, 2] bcast_S2x16x1_S2x16x16_0_1_2 (res_main_v42 V0)))) (constant S_ .f32 0x00000000#32) reducesTo_S2x16x16_S2x16_d2 h_S_)))))

set_option maxRecDepth 8192 in
/-- `main_v53`'s composed term of the arguments (named: it is used 2 times). -/
def res_main_v53 (V0 : Valuation τ sig (Elt F)) : (Proc.devRef .tc main_v53 : DevRef τ sig).ty.Contents (Elt F) :=
  broadcastInDim S2x1x16 ![0, 2] bcast_S2x16_S2x1x16_0_2 (Host.reduce FloatOps.maximumf (res_main_v51 V0) (constant S_ .f32 0xFF800000#32) reducesTo_S2x16x16_S2x16_d1 h_S_)

set_option maxRecDepth 8192 in
/-- `main_v62`'s composed term of the arguments (named: it is used 3 times). -/
def res_main_v62 (V0 : Valuation τ sig (Elt F)) : (Proc.devRef .tc main_v62 : DevRef τ sig).ty.Contents (Elt F) :=
  subf (res_main_v51 V0) (broadcastInDim S2x16x16 ![0, 1, 2] bcast_S2x1x16_S2x16x16_0_1_2 (addf (res_main_v53 V0) (Host.log (broadcastInDim S2x1x16 ![0, 2] bcast_S2x16_S2x1x16_0_2 (Host.reduceAdd (Host.exp (subf (res_main_v51 V0) (broadcastInDim S2x16x16 ![0, 1, 2] bcast_S2x1x16_S2x16x16_0_1_2 (res_main_v53 V0)))) (constant S_ .f32 0x00000000#32) reducesTo_S2x16x16_S2x16_d1 h_S_)))))

set_option maxRecDepth 8192 in
/-- `main_v64`'s composed term of the arguments (named: it is used 2 times). -/
def res_main_v64 (V0 : Valuation τ sig (Elt F)) : (Proc.devRef .tc main_v64 : DevRef τ sig).ty.Contents (Elt F) :=
  broadcastInDim S2x16x1 ![0, 1] bcast_S2x16_S2x16x1_0_1 (Host.reduce FloatOps.maximumf (res_main_v62 V0) (constant S_ .f32 0xFF800000#32) reducesTo_S2x16x16_S2x16_d2 h_S_)

set_option maxRecDepth 8192 in
/-- `main_v73`'s composed term of the arguments (named: it is used 3 times). -/
def res_main_v73 (V0 : Valuation τ sig (Elt F)) : (Proc.devRef .tc main_v73 : DevRef τ sig).ty.Contents (Elt F) :=
  subf (res_main_v62 V0) (broadcastInDim S2x16x16 ![0, 1, 2] bcast_S2x16x1_S2x16x16_0_1_2 (addf (res_main_v64 V0) (Host.log (broadcastInDim S2x16x1 ![0, 1] bcast_S2x16_S2x16x1_0_1 (Host.reduceAdd (Host.exp (subf (res_main_v62 V0) (broadcastInDim S2x16x16 ![0, 1, 2] bcast_S2x16x1_S2x16x16_0_1_2 (res_main_v64 V0)))) (constant S_ .f32 0x00000000#32) reducesTo_S2x16x16_S2x16_d2 h_S_)))))

set_option maxRecDepth 8192 in
/-- `main_v75`'s composed term of the arguments (named: it is used 2 times). -/
def res_main_v75 (V0 : Valuation τ sig (Elt F)) : (Proc.devRef .tc main_v75 : DevRef τ sig).ty.Contents (Elt F) :=
  broadcastInDim S2x1x16 ![0, 2] bcast_S2x16_S2x1x16_0_2 (Host.reduce FloatOps.maximumf (res_main_v73 V0) (constant S_ .f32 0xFF800000#32) reducesTo_S2x16x16_S2x16_d1 h_S_)

set_option maxRecDepth 8192 in
/-- `main_v84`'s composed term of the arguments (named: it is used 3 times). -/
def res_main_v84 (V0 : Valuation τ sig (Elt F)) : (Proc.devRef .tc main_v84 : DevRef τ sig).ty.Contents (Elt F) :=
  subf (res_main_v73 V0) (broadcastInDim S2x16x16 ![0, 1, 2] bcast_S2x1x16_S2x16x16_0_1_2 (addf (res_main_v75 V0) (Host.log (broadcastInDim S2x1x16 ![0, 2] bcast_S2x16_S2x1x16_0_2 (Host.reduceAdd (Host.exp (subf (res_main_v73 V0) (broadcastInDim S2x16x16 ![0, 1, 2] bcast_S2x1x16_S2x16x16_0_1_2 (res_main_v75 V0)))) (constant S_ .f32 0x00000000#32) reducesTo_S2x16x16_S2x16_d1 h_S_)))))

set_option maxRecDepth 8192 in
/-- `main_v86`'s composed term of the arguments (named: it is used 2 times). -/
def res_main_v86 (V0 : Valuation τ sig (Elt F)) : (Proc.devRef .tc main_v86 : DevRef τ sig).ty.Contents (Elt F) :=
  broadcastInDim S2x16x1 ![0, 1] bcast_S2x16_S2x16x1_0_1 (Host.reduce FloatOps.maximumf (res_main_v84 V0) (constant S_ .f32 0xFF800000#32) reducesTo_S2x16x16_S2x16_d2 h_S_)

set_option maxRecDepth 8192 in
/-- `main_v95`'s composed term of the arguments (named: it is used 3 times). -/
def res_main_v95 (V0 : Valuation τ sig (Elt F)) : (Proc.devRef .tc main_v95 : DevRef τ sig).ty.Contents (Elt F) :=
  subf (res_main_v84 V0) (broadcastInDim S2x16x16 ![0, 1, 2] bcast_S2x16x1_S2x16x16_0_1_2 (addf (res_main_v86 V0) (Host.log (broadcastInDim S2x16x1 ![0, 1] bcast_S2x16_S2x16x1_0_1 (Host.reduceAdd (Host.exp (subf (res_main_v84 V0) (broadcastInDim S2x16x16 ![0, 1, 2] bcast_S2x16x1_S2x16x16_0_1_2 (res_main_v86 V0)))) (constant S_ .f32 0x00000000#32) reducesTo_S2x16x16_S2x16_d2 h_S_)))))

set_option maxRecDepth 8192 in
/-- `main_v97`'s composed term of the arguments (named: it is used 2 times). -/
def res_main_v97 (V0 : Valuation τ sig (Elt F)) : (Proc.devRef .tc main_v97 : DevRef τ sig).ty.Contents (Elt F) :=
  broadcastInDim S2x1x16 ![0, 2] bcast_S2x16_S2x1x16_0_2 (Host.reduce FloatOps.maximumf (res_main_v95 V0) (constant S_ .f32 0xFF800000#32) reducesTo_S2x16x16_S2x16_d1 h_S_)

set_option maxRecDepth 8192 in
/-- `main_v106`'s composed term of the arguments (named: it is used 3 times). -/
def res_main_v106 (V0 : Valuation τ sig (Elt F)) : (Proc.devRef .tc main_v106 : DevRef τ sig).ty.Contents (Elt F) :=
  subf (res_main_v95 V0) (broadcastInDim S2x16x16 ![0, 1, 2] bcast_S2x1x16_S2x16x16_0_1_2 (addf (res_main_v97 V0) (Host.log (broadcastInDim S2x1x16 ![0, 2] bcast_S2x16_S2x1x16_0_2 (Host.reduceAdd (Host.exp (subf (res_main_v95 V0) (broadcastInDim S2x16x16 ![0, 1, 2] bcast_S2x1x16_S2x16x16_0_1_2 (res_main_v97 V0)))) (constant S_ .f32 0x00000000#32) reducesTo_S2x16x16_S2x16_d1 h_S_)))))

set_option maxRecDepth 8192 in
/-- `main_v108`'s composed term of the arguments (named: it is used 2 times). -/
def res_main_v108 (V0 : Valuation τ sig (Elt F)) : (Proc.devRef .tc main_v108 : DevRef τ sig).ty.Contents (Elt F) :=
  broadcastInDim S2x16x1 ![0, 1] bcast_S2x16_S2x16x1_0_1 (Host.reduce FloatOps.maximumf (res_main_v106 V0) (constant S_ .f32 0xFF800000#32) reducesTo_S2x16x16_S2x16_d2 h_S_)

set_option maxRecDepth 8192 in
/-- `main_v117`'s composed term of the arguments (named: it is used 3 times). -/
def res_main_v117 (V0 : Valuation τ sig (Elt F)) : (Proc.devRef .tc main_v117 : DevRef τ sig).ty.Contents (Elt F) :=
  subf (res_main_v106 V0) (broadcastInDim S2x16x16 ![0, 1, 2] bcast_S2x16x1_S2x16x16_0_1_2 (addf (res_main_v108 V0) (Host.log (broadcastInDim S2x16x1 ![0, 1] bcast_S2x16_S2x16x1_0_1 (Host.reduceAdd (Host.exp (subf (res_main_v106 V0) (broadcastInDim S2x16x16 ![0, 1, 2] bcast_S2x16x1_S2x16x16_0_1_2 (res_main_v108 V0)))) (constant S_ .f32 0x00000000#32) reducesTo_S2x16x16_S2x16_d2 h_S_)))))

set_option maxRecDepth 8192 in
/-- `main_v119`'s composed term of the arguments (named: it is used 2 times). -/
def res_main_v119 (V0 : Valuation τ sig (Elt F)) : (Proc.devRef .tc main_v119 : DevRef τ sig).ty.Contents (Elt F) :=
  broadcastInDim S2x1x16 ![0, 2] bcast_S2x16_S2x1x16_0_2 (Host.reduce FloatOps.maximumf (res_main_v117 V0) (constant S_ .f32 0xFF800000#32) reducesTo_S2x16x16_S2x16_d1 h_S_)

set_option maxRecDepth 8192 in
/-- `main_v129`'s composed term of the arguments (named: it is used 2 times). -/
def res_main_v129 (V0 : Valuation τ sig (Elt F)) : (Proc.devRef .tc main_v129 : DevRef τ sig).ty.Contents (Elt F) :=
  Host.exp (subf (res_main_v117 V0) (broadcastInDim S2x16x16 ![0, 1, 2] bcast_S2x1x16_S2x16x16_0_1_2 (addf (res_main_v119 V0) (Host.log (broadcastInDim S2x1x16 ![0, 2] bcast_S2x16_S2x1x16_0_2 (Host.reduceAdd (Host.exp (subf (res_main_v117 V0) (broadcastInDim S2x16x16 ![0, 1, 2] bcast_S2x1x16_S2x16x16_0_1_2 (res_main_v119 V0)))) (constant S_ .f32 0x00000000#32) reducesTo_S2x16x16_S2x16_d1 h_S_))))))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S2x16x16 32 2

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v133`'s composed term of the arguments (named: it is used 3 times). -/
def res_main_v133 (V0 : Valuation τ sig (Elt F)) : (Proc.devRef .tc main_v133 : DevRef τ sig).ty.Contents (Elt F) :=
  broadcastInDim S2x16x1x1 ![0, 1] bcast_S2x16_S2x16x1x1_0_1 ((fun j => (Host.argReduce reducer_argmax_f32_i32 (res_main_v129 V0) (res_main_call0_v0 V0) (res_main_call0_cst V0) (res_main_call0_c V0) reducesTo_S2x16x16_S2x16_d2 h_S_ j).2))

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  shapeCast _ (select (cmpi .slt (res_main_v133 V0) (broadcastInDim S2x16x1x1 ![] bcast_S_S2x16x1x1 (constantI S_ 32 0#32))) (addi (res_main_v133 V0) (broadcastInDim S2x16x1x1 ![] bcast_S_S2x16x1x1 (constantI S_ 32 16#32))) (res_main_v133 V0)) shapeCasts_S2x16x1x1_S2x16x1

set_option maxRecDepth 8192 in
/-- `main_v136`'s composed term of the arguments (named: it is used 3 times). -/
def res_main_v136 (V0 : Valuation τ sig (Elt F)) : (Proc.devRef .tc main_v136 : DevRef τ sig).ty.Contents (Elt F) :=
  shapeCast _ (transpose S16x256x2x1024 [1, 2, 0, 3] (select (broadcastInDim S2x16x256x1024 ![0, 1] bcast_S2x16_S2x16x256x1024_0_1 (Host.reduce IntOp.andi (andi (cmpi .sge (res_main_call1_v5 V0) (broadcastInDim S2x16x1 ![] bcast_S_S2x16x1 (constantI S_ 32 0#32))) (cmpi .sle (res_main_call1_v5 V0) (broadcastInDim S2x16x1 ![0, 1, 2] bcast_S1x1x1_S2x16x1_0_1_2 (broadcastInDim S1x1x1 ![2] bcast_S1_S1x1x1_2 (constantI S1 32 15#32))))) (constantI S_ 1 1#1) reducesTo_S2x16x1_S2x16_d2 h_S_)) (Host.gather gather_S2x16x256x1024_S2x16x1_S2x16x256x1024_23_1_0_0_1_2_112561024 (transpose S2x16x256x1024 [2, 0, 1, 3] (shapeCast _ (V0 (Proc.devRef .tc main_arg0)) shapeCasts_S4096x2x1024_S16x256x2x1024) transposes_S16x256x2x1024_S2x16x256x1024_2_0_1_3) (res_main_call1_v5 V0)) (broadcastInDim S2x16x256x1024 ![] bcast_S_S2x16x256x1024 (constant S_ .f32 0x7FC00000#32))) transposes_S2x16x256x1024_S16x256x2x1024_1_2_0_3) shapeCasts_S16x256x2x1024_S4096x2x1024

set_option maxRecDepth 8192 in
/-- `main_v166`'s composed term of the arguments (named: it is used 2 times). -/
def res_main_v166 (V0 : Valuation τ sig (Elt F)) : (Proc.devRef .tc main_v166 : DevRef τ sig).ty.Contents (Elt F) :=
  mulf (Host.dotGeneral dot_S2x16x16x256x64_S2x16x16x256x64_S2x16x16x256x256_4_4_3_3_012_012 none (shapeCast _ (transpose S2x16x4096x64 [0, 2, 1, 3] (shapeCast _ (transpose S2x4096x1024 [1, 0, 2] (addf (Host.dotGeneral dot_S4096x2x1024_S1024x1024_S4096x2x1024_2_0_01_1_n_n none (res_main_v136 V0) (transpose S1024x1024 [1, 0] (V0 (Proc.devRef .tc main_arg1)) transposes_S1024x1024_S1024x1024_1_0)) (broadcastInDim S4096x2x1024 ![0, 1, 2] bcast_S1x1x1024_S4096x2x1024_0_1_2 (broadcastInDim S1x1x1024 ![2] bcast_S1024_S1x1x1024_2 (V0 (Proc.devRef .tc main_arg2))))) transposes_S4096x2x1024_S2x4096x1024_1_0_2) shapeCasts_S2x4096x1024_S2x4096x16x64) transposes_S2x4096x16x64_S2x16x4096x64_0_2_1_3) shapeCasts_S2x16x4096x64_S2x16x16x256x64) (shapeCast _ (transpose S2x16x4096x64 [0, 2, 1, 3] (shapeCast _ (transpose S2x4096x1024 [1, 0, 2] (addf (Host.dotGeneral dot_S4096x2x1024_S1024x1024_S4096x2x1024_2_0_01_1_n_n none (res_main_v136 V0) (transpose S1024x1024 [1, 0] (V0 (Proc.devRef .tc main_arg3)) transposes_S1024x1024_S1024x1024_1_0)) (broadcastInDim S4096x2x1024 ![0, 1, 2] bcast_S1x1x1024_S4096x2x1024_0_1_2 (broadcastInDim S1x1x1024 ![2] bcast_S1024_S1x1x1024_2 (V0 (Proc.devRef .tc main_arg4))))) transposes_S4096x2x1024_S2x4096x1024_1_0_2) shapeCasts_S2x4096x1024_S2x4096x16x64) transposes_S2x4096x16x64_S2x16x4096x64_0_2_1_3) shapeCasts_S2x16x4096x64_S2x16x16x256x64)) (broadcastInDim S2x16x16x256x256 ![] bcast_S_S2x16x16x256x256 (constant S_ .f32 0x3E000000#32))

set_option maxRecDepth 8192 in
/-- `main_v173`'s composed term of the arguments (named: it is used 2 times). -/
def res_main_v173 (V0 : Valuation τ sig (Elt F)) : (Proc.devRef .tc main_v173 : DevRef τ sig).ty.Contents (Elt F) :=
  Host.exp (subf (res_main_v166 V0) (broadcastInDim S2x16x16x256x256 ![0, 1, 2, 3, 4] bcast_S2x16x16x256x1_S2x16x16x256x256_0_1_2_3_4 (broadcastInDim S2x16x16x256x1 ![0, 1, 2, 3] bcast_S2x16x16x256_S2x16x16x256x1_0_1_2_3 (maximumf (broadcastInDim S2x16x16x256 ![] bcast_S_S2x16x16x256 (constant S_ .f32 0xFF800000#32)) (Host.reduce FloatOps.maximumf (res_main_v166 V0) (constant S_ .f32 0xFF800000#32) reducesTo_S2x16x16x256x256_S2x16x16x256_d4 h_S_)))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_cst, main_v1, main_cst_0, main_v2, main_v3, main_v4, main_v5, main_v6, main_v7, main_v8, main_v9, main_v10, main_v11, main_v12, main_v13, main_v14, main_v15, main_v16, main_cst_1, main_v17, main_v18, main_cst_2, main_v19, main_v20, main_v21, main_v22, main_v23, main_cst_3, main_v24, main_v25, main_v26, main_v27, main_v28, main_v29, main_cst_4, main_v30, main_v31, main_v32, main_v33, main_v34, main_cst_5, main_v35, main_v36, main_v37, main_v38, main_v39, main_v40, main_cst_6, main_v41, main_v42, main_v43, main_v44, main_v45, main_cst_7, main_v46, main_v47, main_v48, main_v49, main_v50]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
set_option maxRecDepth 8192 in
set_option maxHeartbeats 2000000 in
theorem val1_main_v40 (V0 : Valuation τ sig (Elt F)) : val1 V0 (no_index (Proc.devRef .tc main_v40)) = res_main_v40 V0 := by
  unfold val1
  simp only [ops_part0]
  after_results_simp
  simp only [val0_main_arg4, val0_main_arg3, val0_main_arg0, val0_main_arg2, val0_main_arg1] <;> rfl
set_option maxRecDepth 8192 in
set_option maxHeartbeats 2000000 in
theorem val1_main_v50 (V0 : Valuation τ sig (Elt F)) : val1 V0 (no_index (Proc.devRef .tc main_v50)) = broadcastInDim S2x16x16 ![0, 1, 2] bcast_S2x16x1_S2x16x16_0_1_2 (addf (res_main_v42 V0) (Host.log (broadcastInDim S2x16x1 ![0, 1] bcast_S2x16_S2x16x1_0_1 (Host.reduceAdd (Host.exp (subf (res_main_v40 V0) (broadcastInDim S2x16x16 ![0, 1, 2] bcast_S2x16x1_S2x16x16_0_1_2 (res_main_v42 V0)))) (constant S_ .f32 0x00000000#32) reducesTo_S2x16x16_S2x16_d2 h_S_)))) := by
  unfold val1
  simp only [ops_part0]
  after_results_simp
  simp only [val0_main_arg4, val0_main_arg3, val0_main_arg0, val0_main_arg2, val0_main_arg1] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v51, main_cst_8, main_v52, main_v53, main_v54, main_v55, main_v56, main_cst_9, main_v57, main_v58, main_v59, main_v60, main_v61, main_v62, main_cst_10, main_v63, main_v64, main_v65, main_v66, main_v67, main_cst_11, main_v68, main_v69, main_v70, main_v71, main_v72, main_v73, main_cst_12, main_v74, main_v75, main_v76, main_v77, main_v78, main_cst_13, main_v79, main_v80, main_v81, main_v82, main_v83, main_v84, main_cst_14, main_v85, main_v86, main_v87, main_v88, main_v89, main_cst_15, main_v90, main_v91, main_v92, main_v93, main_v94, main_v95, main_cst_16, main_v96, main_v97, main_v98, main_v99, main_v100, main_cst_17]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
set_option maxRecDepth 8192 in
set_option maxHeartbeats 2000000 in
theorem val2_main_v95 (V0 : Valuation τ sig (Elt F)) : val2 V0 (no_index (Proc.devRef .tc main_v95)) = res_main_v95 V0 := by
  unfold val2
  simp only [ops_part1]
  after_results_simp
  simp only [val1_main_v50, val1_main_v40] <;> rfl
set_option maxRecDepth 8192 in
set_option maxHeartbeats 2000000 in
theorem val2_main_v97 (V0 : Valuation τ sig (Elt F)) : val2 V0 (no_index (Proc.devRef .tc main_v97)) = res_main_v97 V0 := by
  unfold val2
  simp only [ops_part1]
  after_results_simp
  simp only [val1_main_v50, val1_main_v40] <;> rfl
set_option maxRecDepth 8192 in
set_option maxHeartbeats 2000000 in
theorem val2_main_v100 (V0 : Valuation τ sig (Elt F)) : val2 V0 (no_index (Proc.devRef .tc main_v100)) = Host.exp (subf (res_main_v95 V0) (broadcastInDim S2x16x16 ![0, 1, 2] bcast_S2x1x16_S2x16x16_0_1_2 (res_main_v97 V0))) := by
  unfold val2
  simp only [ops_part1]
  after_results_simp
  simp only [val1_main_v50, val1_main_v40] <;> rfl
set_option maxRecDepth 8192 in
set_option maxHeartbeats 2000000 in
theorem val2_main_cst_17 (V0 : Valuation τ sig (Elt F)) : val2 V0 (no_index (Proc.devRef .tc main_cst_17)) = constant S_ .f32 0x00000000#32 := by
  unfold val2
  simp only [ops_part1]
  after_results_simp
  all_goals rfl

/-- The device's buffer contents after @main's first 150 operations. -/
def val2_1 (V0 : Valuation τ sig (Elt F)) : Valuation τ sig (Elt F) := after ops_part2_0 (val2 V0)
/-- The buffers that window `ops_part2_0`'s operations write. -/
abbrev ops_part2_0_W : List (Ref sig .tc) := [main_v101, main_v102, main_v103, main_v104, main_v105, main_v106, main_cst_18, main_v107, main_v108, main_v109, main_v110, main_v111, main_cst_19, main_v112, main_v113, main_v114, main_v115, main_v116, main_v117, main_cst_20, main_v118, main_v119, main_v120, main_v121, main_v122, main_cst_21, main_v123, main_v124, main_v125, main_v126]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
theorem val2_1_main_arg7 (V0 : Valuation τ sig (Elt F)) : val2_1 V0 (no_index (Proc.devRef .tc main_arg7)) = V0 (Proc.devRef .tc main_arg7) :=
  (val2_1_keep V0 main_arg7 (by decide)).trans (val2_main_arg7 V0)
theorem val2_1_main_arg8 (V0 : Valuation τ sig (Elt F)) : val2_1 V0 (no_index (Proc.devRef .tc main_arg8)) = V0 (Proc.devRef .tc main_arg8) :=
  (val2_1_keep V0 main_arg8 (by decide)).trans (val2_main_arg8 V0)
set_option maxRecDepth 8192 in
set_option maxHeartbeats 2000000 in
theorem val2_1_main_v117 (V0 : Valuation τ sig (Elt F)) : val2_1 V0 (no_index (Proc.devRef .tc main_v117)) = res_main_v117 V0 := by
  unfold val2_1
  simp only [ops_part2_0]
  after_results_simp
  simp only [val2_main_cst_17, val2_main_v100, val2_main_v97, val2_main_v95] <;> rfl
set_option maxRecDepth 8192 in
set_option maxHeartbeats 2000000 in
theorem val2_1_main_v126 (V0 : Valuation τ sig (Elt F)) : val2_1 V0 (no_index (Proc.devRef .tc main_v126)) = addf (res_main_v119 V0) (Host.log (broadcastInDim S2x1x16 ![0, 2] bcast_S2x16_S2x1x16_0_2 (Host.reduceAdd (Host.exp (subf (res_main_v117 V0) (broadcastInDim S2x16x16 ![0, 1, 2] bcast_S2x1x16_S2x16x16_0_1_2 (res_main_v119 V0)))) (constant S_ .f32 0x00000000#32) reducesTo_S2x16x16_S2x16_d1 h_S_))) := by
  unfold val2_1
  simp only [ops_part2_0]
  after_results_simp
  simp only [val2_main_cst_17, val2_main_v100, val2_main_v97, val2_main_v95] <;> rfl

/-- The device's buffer contents after @main's first 180 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v127, main_v128, main_v129, main_call0_v0, main_call0_cst, main_call0_c, main_call0_v1_0, main_v130, main_v131, main_v132, main_v133, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_arg6 (V0 : Valuation τ sig (Elt F)) : val2_2 V0 (no_index (Proc.devRef .tc main_arg6)) = V0 (Proc.devRef .tc main_arg6) :=
  (val2_2_keep V0 main_arg6 (by decide)).trans (val2_1_main_arg6 V0)
theorem val2_2_main_arg7 (V0 : Valuation τ sig (Elt F)) : val2_2 V0 (no_index (Proc.devRef .tc main_arg7)) = V0 (Proc.devRef .tc main_arg7) :=
  (val2_2_keep V0 main_arg7 (by decide)).trans (val2_1_main_arg7 V0)
theorem val2_2_main_arg8 (V0 : Valuation τ sig (Elt F)) : val2_2 V0 (no_index (Proc.devRef .tc main_arg8)) = V0 (Proc.devRef .tc main_arg8) :=
  (val2_2_keep V0 main_arg8 (by decide)).trans (val2_1_main_arg8 V0)
set_option maxRecDepth 8192 in
set_option maxHeartbeats 2000000 in
theorem val2_2_main_call1_v12 (V0 : Valuation τ sig (Elt F)) : val2_2 V0 (no_index (Proc.devRef .tc main_call1_v12)) = Host.reduce IntOp.andi (andi (cmpi .sge (res_main_call1_v5 V0) (broadcastInDim S2x16x1 ![] bcast_S_S2x16x1 (constantI S_ 32 0#32))) (cmpi .sle (res_main_call1_v5 V0) (broadcastInDim S2x16x1 ![0, 1, 2] bcast_S1x1x1_S2x16x1_0_1_2 (broadcastInDim S1x1x1 ![2] bcast_S1_S1x1x1_2 (constantI S1 32 15#32))))) (constantI S_ 1 1#1) reducesTo_S2x16x1_S2x16_d2 h_S_ := by
  unfold val2_2
  simp only [ops_part2_1, TRef.binary, TRef.nullary, TRef.quaternary, TRef.reshape, TRef.ternary, TRef.unary, TRef.toBuf, TRef.ofBuf, cast_eq]
  after_results_simp
  simp only [val2_1_main_v126, val2_1_main_v117] <;> rfl
set_option maxRecDepth 8192 in
set_option maxHeartbeats 2000000 in
theorem val2_2_main_call1_v13 (V0 : Valuation τ sig (Elt F)) : val2_2 V0 (no_index (Proc.devRef .tc main_call1_v13)) = Host.gather gather_S2x16x256x1024_S2x16x1_S2x16x256x1024_23_1_0_0_1_2_112561024 (transpose S2x16x256x1024 [2, 0, 1, 3] (shapeCast _ (V0 (Proc.devRef .tc main_arg0)) shapeCasts_S4096x2x1024_S16x256x2x1024) transposes_S16x256x2x1024_S2x16x256x1024_2_0_1_3) (res_main_call1_v5 V0) := by
  unfold val2_2
  simp only [ops_part2_1, TRef.binary, TRef.nullary, TRef.quaternary, TRef.reshape, TRef.ternary, TRef.unary, TRef.toBuf, TRef.ofBuf, cast_eq]
  after_results_simp
  simp only [val2_1_main_v126, val2_1_main_v117, val2_1_main_arg0] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_call1_v14, main_call1_cst, main_call1_v15, main_v134, main_v135, main_v136, main_v137, main_v138, main_v139, main_v140, main_v141, main_v142, main_v143, main_v144, main_v145, main_v146, main_v147, main_v148, main_v149, main_v150, main_v151, main_v152, main_v153, main_v154, main_v155, main_v156]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_2_main_arg8 V0)
set_option maxRecDepth 8192 in
set_option maxHeartbeats 2000000 in
theorem val3_main_v151 (V0 : Valuation τ sig (Elt F)) : val3 V0 (no_index (Proc.devRef .tc main_v151)) = addf (Host.dotGeneral dot_S4096x2x1024_S1024x1024_S4096x2x1024_2_0_01_1_n_n none (res_main_v136 V0) (transpose S1024x1024 [1, 0] (V0 (Proc.devRef .tc main_arg5)) transposes_S1024x1024_S1024x1024_1_0)) (broadcastInDim S4096x2x1024 ![0, 1, 2] bcast_S1x1x1024_S4096x2x1024_0_1_2 (broadcastInDim S1x1x1024 ![2] bcast_S1024_S1x1x1024_2 (V0 (Proc.devRef .tc main_arg6)))) := by
  unfold val3
  simp only [ops_part2_2, TRef.nullary, TRef.ternary, TRef.unary, TRef.toBuf, TRef.ofBuf, cast_eq]
  after_results_simp
  simp only [val2_2_main_arg6, val2_2_main_arg5, val2_2_main_call1_v13, val2_2_main_call1_v12] <;> rfl
set_option maxRecDepth 8192 in
set_option maxHeartbeats 2000000 in
theorem val3_main_v155 (V0 : Valuation τ sig (Elt F)) : val3 V0 (no_index (Proc.devRef .tc main_v155)) = shapeCast _ (transpose S2x16x4096x64 [0, 2, 1, 3] (shapeCast _ (transpose S2x4096x1024 [1, 0, 2] (addf (Host.dotGeneral dot_S4096x2x1024_S1024x1024_S4096x2x1024_2_0_01_1_n_n none (res_main_v136 V0) (transpose S1024x1024 [1, 0] (V0 (Proc.devRef .tc main_arg1)) transposes_S1024x1024_S1024x1024_1_0)) (broadcastInDim S4096x2x1024 ![0, 1, 2] bcast_S1x1x1024_S4096x2x1024_0_1_2 (broadcastInDim S1x1x1024 ![2] bcast_S1024_S1x1x1024_2 (V0 (Proc.devRef .tc main_arg2))))) transposes_S4096x2x1024_S2x4096x1024_1_0_2) shapeCasts_S2x4096x1024_S2x4096x16x64) transposes_S2x4096x16x64_S2x16x4096x64_0_2_1_3) shapeCasts_S2x16x4096x64_S2x16x16x256x64 := by
  unfold val3
  simp only [ops_part2_2, TRef.nullary, TRef.ternary, TRef.unary, TRef.toBuf, TRef.ofBuf, cast_eq]
  after_results_simp
  simp only [val2_2_main_arg2, val2_2_main_arg1, val2_2_main_call1_v13, val2_2_main_call1_v12] <;> rfl
set_option maxRecDepth 8192 in
set_option maxHeartbeats 2000000 in
theorem val3_main_v156 (V0 : Valuation τ sig (Elt F)) : val3 V0 (no_index (Proc.devRef .tc main_v156)) = transpose S2x4096x1024 [1, 0, 2] (addf (Host.dotGeneral dot_S4096x2x1024_S1024x1024_S4096x2x1024_2_0_01_1_n_n none (res_main_v136 V0) (transpose S1024x1024 [1, 0] (V0 (Proc.devRef .tc main_arg3)) transposes_S1024x1024_S1024x1024_1_0)) (broadcastInDim S4096x2x1024 ![0, 1, 2] bcast_S1x1x1024_S4096x2x1024_0_1_2 (broadcastInDim S1x1x1024 ![2] bcast_S1024_S1x1x1024_2 (V0 (Proc.devRef .tc main_arg4))))) transposes_S4096x2x1024_S2x4096x1024_1_0_2 := by
  unfold val3
  simp only [ops_part2_2, TRef.nullary, TRef.ternary, TRef.unary, TRef.toBuf, TRef.ofBuf, cast_eq]
  after_results_simp
  simp only [val2_2_main_arg4, val2_2_main_arg3, val2_2_main_call1_v13, val2_2_main_call1_v12] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v157, main_v158, main_v159, main_v160, main_v161, main_v162, main_v163, main_v164, main_cst_22, main_v165, main_v166, main_cst_23, main_v167, main_cst_24, main_v168, main_v169, main_v170, main_v171, main_v172, main_v173, main_cst_25, main_v174, main_v175, main_v176, main_v177, main_v178, main_v179, main_v180, main_v181, main_v182, main_v183, main_v184, main_v185, main_v186, main_v187]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
set_option maxRecDepth 8192 in
set_option maxHeartbeats 2000000 in
theorem val4_main_v187 (V0 : Valuation τ sig (Elt F)) : val4 V0 (no_index (Proc.devRef .tc main_v187)) = addf (Host.dotGeneral dot_S4096x2x1024_S1024x1024_S4096x2x1024_2_0_01_1_n_n none (transpose S4096x2x1024 [1, 0, 2] (shapeCast _ (transpose S2x4096x16x64 [0, 2, 1, 3] (shapeCast _ (Host.dotGeneral dot_S2x16x16x256x256_S2x16x16x256x64_S2x16x16x256x64_4_3_3_4_012_012 none (Host.divf (res_main_v173 V0) (broadcastInDim S2x16x16x256x256 ![0, 1, 2, 3, 4] bcast_S2x16x16x256x1_S2x16x16x256x256_0_1_2_3_4 (broadcastInDim S2x16x16x256x1 ![0, 1, 2, 3] bcast_S2x16x16x256_S2x16x16x256x1_0_1_2_3 (Host.reduceAdd (res_main_v173 V0) (constant S_ .f32 0x00000000#32) reducesTo_S2x16x16x256x256_S2x16x16x256_d4 h_S_)))) (shapeCast _ (transpose S2x16x4096x64 [0, 2, 1, 3] (shapeCast _ (transpose S2x4096x1024 [1, 0, 2] (addf (Host.dotGeneral dot_S4096x2x1024_S1024x1024_S4096x2x1024_2_0_01_1_n_n none (res_main_v136 V0) (transpose S1024x1024 [1, 0] (V0 (Proc.devRef .tc main_arg5)) transposes_S1024x1024_S1024x1024_1_0)) (broadcastInDim S4096x2x1024 ![0, 1, 2] bcast_S1x1x1024_S4096x2x1024_0_1_2 (broadcastInDim S1x1x1024 ![2] bcast_S1024_S1x1x1024_2 (V0 (Proc.devRef .tc main_arg6))))) transposes_S4096x2x1024_S2x4096x1024_1_0_2) shapeCasts_S2x4096x1024_S2x4096x16x64) transposes_S2x4096x16x64_S2x16x4096x64_0_2_1_3) shapeCasts_S2x16x4096x64_S2x16x16x256x64)) shapeCasts_S2x16x16x256x64_S2x16x4096x64) transposes_S2x16x4096x64_S2x4096x16x64_0_2_1_3) shapeCasts_S2x4096x16x64_S2x4096x1024) transposes_S2x4096x1024_S4096x2x1024_1_0_2) (transpose S1024x1024 [1, 0] (V0 (Proc.devRef .tc main_arg7)) transposes_S1024x1024_S1024x1024_1_0)) (broadcastInDim S4096x2x1024 ![0, 1, 2] bcast_S1x1x1024_S4096x2x1024_0_1_2 (broadcastInDim S1x1x1024 ![2] bcast_S1024_S1x1x1024_2 (V0 (Proc.devRef .tc main_arg8)))) := by
  unfold val4
  simp only [ops_part3]
  after_results_simp
  simp only [val3_main_arg8, val3_main_arg7, val3_main_v151, val3_main_v156, val3_main_v155] <;> rfl

theorem after_ops (V0 : Valuation τ sig (Elt F)) : after ops V0 = val4 V0 := by
  simp only [ops, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v187) = addf (Host.dotGeneral dot_S4096x2x1024_S1024x1024_S4096x2x1024_2_0_01_1_n_n none (transpose S4096x2x1024 [1, 0, 2] (shapeCast _ (transpose S2x4096x16x64 [0, 2, 1, 3] (shapeCast _ (Host.dotGeneral dot_S2x16x16x256x256_S2x16x16x256x64_S2x16x16x256x64_4_3_3_4_012_012 none (Host.divf (res_main_v173 (launchContents m c)) (broadcastInDim S2x16x16x256x256 ![0, 1, 2, 3, 4] bcast_S2x16x16x256x1_S2x16x16x256x256_0_1_2_3_4 (broadcastInDim S2x16x16x256x1 ![0, 1, 2, 3] bcast_S2x16x16x256_S2x16x16x256x1_0_1_2_3 (Host.reduceAdd (res_main_v173 (launchContents m c)) (constant S_ .f32 0x00000000#32) reducesTo_S2x16x16x256x256_S2x16x16x256_d4 h_S_)))) (shapeCast _ (transpose S2x16x4096x64 [0, 2, 1, 3] (shapeCast _ (transpose S2x4096x1024 [1, 0, 2] (addf (Host.dotGeneral dot_S4096x2x1024_S1024x1024_S4096x2x1024_2_0_01_1_n_n none (res_main_v136 (launchContents m c)) (transpose S1024x1024 [1, 0] ((launchContents m c) (Proc.devRef .tc main_arg5)) transposes_S1024x1024_S1024x1024_1_0)) (broadcastInDim S4096x2x1024 ![0, 1, 2] bcast_S1x1x1024_S4096x2x1024_0_1_2 (broadcastInDim S1x1x1024 ![2] bcast_S1024_S1x1x1024_2 ((launchContents m c) (Proc.devRef .tc main_arg6))))) transposes_S4096x2x1024_S2x4096x1024_1_0_2) shapeCasts_S2x4096x1024_S2x4096x16x64) transposes_S2x4096x16x64_S2x16x4096x64_0_2_1_3) shapeCasts_S2x16x4096x64_S2x16x16x256x64)) shapeCasts_S2x16x16x256x64_S2x16x4096x64) transposes_S2x16x4096x64_S2x4096x16x64_0_2_1_3) shapeCasts_S2x4096x16x64_S2x4096x1024) transposes_S2x4096x1024_S4096x2x1024_1_0_2) (transpose S1024x1024 [1, 0] ((launchContents m c) (Proc.devRef .tc main_arg7)) transposes_S1024x1024_S1024x1024_1_0)) (broadcastInDim S4096x2x1024 ![0, 1, 2] bcast_S1x1x1024_S4096x2x1024_0_1_2 (broadcastInDim S1x1x1024 ![2] bcast_S1024_S1x1x1024_2 ((launchContents m c) (Proc.devRef .tc main_arg8))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v187).trans ((congrFun (after_ops (launchContents m c)) (Proc.devRef .tc main_v187)).trans (val4_main_v187 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c))),
      (h c main_arg5).trans ((congrFun (after_ops (launchContents m c)) (Proc.devRef .tc main_arg5)).trans (val4_main_arg5 (launchContents m c))),
      (h c main_arg6).trans ((congrFun (after_ops (launchContents m c)) (Proc.devRef .tc main_arg6)).trans (val4_main_arg6 (launchContents m c))),
      (h c main_arg7).trans ((congrFun (after_ops (launchContents m c)) (Proc.devRef .tc main_arg7)).trans (val4_main_arg7 (launchContents m c))),
      (h c main_arg8).trans ((congrFun (after_ops (launchContents m c)) (Proc.devRef .tc main_arg8)).trans (val4_main_arg8 (launchContents m c)))⟩)
    (run_seq scopedRefs_eq scopedSems_eq defs main (fun _ => ops) main_eq (fun _ => ops_sub) m ρ fun _ => ops_fresh)

end Cert.ReferenceIdeal.Value

end
-- ==== Proof.ReferenceIdeal.Stages.lean ====
/- The reference's value in stages, each a function of the arrays it takes: block means, their projections and scaled
   products, ten normalisation steps, each row's first greatest entry, the gathered rows, and attention inside each block.
   The run's result is the last stage of the arguments. -/
module

public import proofs.«01_k».proof.Proof.ReferenceIdeal.Run

@[expose] public section

noncomputable section

namespace Cert.ReferenceIdeal.Stages

open Cert.ReferenceIdeal Cert.ReferenceIdeal.Gen Cert.ReferenceIdeal.Value Idealize.ShloMosaic Idealize.ShloMosaic.TcCoe

variable {F : FTy → Type} [FloatOps F]

/-- Block means, batch element first. -/
def means (x : FVec F S4096x2x1024 .f32) : FVec F S2x16x1024 .f32 :=
  transpose S2x16x1024 [1, 0, 2] (Host.divf (Host.reduceAdd (shapeCast S16x256x2x1024 x shapeCasts_S4096x2x1024_S16x256x2x1024)
    (constant S_ .f32 0x00000000#32) reducesTo_S16x256x2x1024_S16x2x1024_d1 h_S_)
    (broadcastInDim S16x2x1024 ![] bcast_S_S16x2x1024 (constant S_ .f32 0x43800000#32))) transposes_S16x2x1024_S2x16x1024_1_0_2

/-- The means' projection by a weight. -/
def meanProj (a : FVec F S2x16x1024 .f32) (w : FVec F S1024x1024 .f32) (b : FVec F S1024 .f32) : FVec F S2x16x1024 .f32 :=
  addf (Host.dotGeneral dot_S2x16x1024_S1024x1024_S2x16x1024_2_0_01_1_n_n none a (transpose S1024x1024 [1, 0] w transposes_S1024x1024_S1024x1024_1_0))
    (broadcastInDim S2x16x1024 ![0, 1, 2] bcast_S1x1x1024_S2x16x1024_0_1_2 (broadcastInDim S1x1x1024 ![2] bcast_S1024_S1x1x1024_2 b))

/-- The blocks' products over the root of the width. -/
def logits (q k : FVec F S2x16x1024 .f32) : FVec F S2x16x16 .f32 :=
  Host.divf (Host.dotGeneral dot_S2x16x1024_S2x1024x16_S2x16x16_2_1_1_2_0_0 none q (transpose S2x1024x16 [0, 2, 1] k transposes_S2x16x1024_S2x1024x16_0_2_1))
    (broadcastInDim S2x16x16 ![] bcast_S_S2x16x16 (constant S_ .f32 0x42000000#32))

/-- Every row's greatest entry. -/
def rowMax (a : FVec F S2x16x16 .f32) : FVec F S2x16x1 .f32 :=
  broadcastInDim S2x16x1 ![0, 1] bcast_S2x16_S2x16x1_0_1 (Host.reduce FloatOps.maximumf a (constant S_ .f32 0xFF800000#32) reducesTo_S2x16x16_S2x16_d2 h_S_)

/-- Every row less the logarithm of the sum of its exponentials. -/
def rowStep (a : FVec F S2x16x16 .f32) : FVec F S2x16x16 .f32 :=
  subf a (broadcastInDim S2x16x16 ![0, 1, 2] bcast_S2x16x1_S2x16x16_0_1_2 (addf (rowMax a) (Host.log (broadcastInDim S2x16x1 ![0, 1] bcast_S2x16_S2x16x1_0_1
    (Host.reduceAdd (Host.exp (subf a (broadcastInDim S2x16x16 ![0, 1, 2] bcast_S2x16x1_S2x16x16_0_1_2 (rowMax a)))) (constant S_ .f32 0x00000000#32)
      reducesTo_S2x16x16_S2x16_d2 h_S_)))))

/-- Every column's greatest entry. -/
def colMax (a : FVec F S2x16x16 .f32) : FVec F S2x1x16 .f32 :=
  broadcastInDim S2x1x16 ![0, 2] bcast_S2x16_S2x1x16_0_2 (Host.reduce FloatOps.maximumf a (constant S_ .f32 0xFF800000#32) reducesTo_S2x16x16_S2x16_d1 h_S_)

/-- Every column less the logarithm of the sum of its exponentials. -/
def colStep (a : FVec F S2x16x16 .f32) : FVec F S2x16x16 .f32 :=
  subf a (broadcastInDim S2x16x16 ![0, 1, 2] bcast_S2x1x16_S2x16x16_0_1_2 (addf (colMax a) (Host.log (broadcastInDim S2x1x16 ![0, 2] bcast_S2x16_S2x1x16_0_2
    (Host.reduceAdd (Host.exp (subf a (broadcastInDim S2x16x16 ![0, 1, 2] bcast_S2x1x16_S2x16x16_0_1_2 (colMax a)))) (constant S_ .f32 0x00000000#32)
      reducesTo_S2x16x16_S2x16_d1 h_S_)))))

/-- One round: rows, then columns. -/
def step (a : FVec F S2x16x16 .f32) : FVec F S2x16x16 .f32 := colStep (rowStep a)

/-- Each row's first greatest entry, after the exponential. -/
def pick (a : FVec F S2x16x16 .f32) : IVec S2x16 32 := fun j =>
  (Host.argReduce reducer_argmax_f32_i32 (Host.exp a) (iotaInDim S2x16x16 32 2) (constant S_ .f32 0xFF800000#32) (constantI S_ 32 0#32)
    reducesTo_S2x16x16_S2x16_d2 h_S_ j).2

/-- An index as the gather takes it: sixteen more where it is negative. -/
def wrapped (p : IVec S2x16 32) : IVec S2x16x1 32 :=
  let q : IVec S2x16x1x1 32 := broadcastInDim S2x16x1x1 ![0, 1] bcast_S2x16_S2x16x1x1_0_1 p
  shapeCast S2x16x1 (select (cmpi .slt q (broadcastInDim S2x16x1x1 ![] bcast_S_S2x16x1x1 (constantI S_ 32 0#32)))
    (addi q (broadcastInDim S2x16x1x1 ![] bcast_S_S2x16x1x1 (constantI S_ 32 16#32))) q) shapeCasts_S2x16x1x1_S2x16x1

/-- Whether an index names a block. -/
def inRange (q : IVec S2x16x1 32) : IVec S2x16 1 :=
  Host.reduce IntOp.andi (andi (cmpi .sge q (broadcastInDim S2x16x1 ![] bcast_S_S2x16x1 (constantI S_ 32 0#32)))
    (cmpi .sle q (broadcastInDim S2x16x1 ![0, 1, 2] bcast_S1x1x1_S2x16x1_0_1_2 (broadcastInDim S1x1x1 ![2] bcast_S1_S1x1x1_2 (constantI S1 32 15#32)))))
    (constantI S_ 1 1#1) reducesTo_S2x16x1_S2x16_d2 h_S_

/-- The rows by block, batch element first. -/
def blocks (x : FVec F S4096x2x1024 .f32) : FVec F S2x16x256x1024 .f32 :=
  transpose S2x16x256x1024 [2, 0, 1, 3] (shapeCast S16x256x2x1024 x shapeCasts_S4096x2x1024_S16x256x2x1024) transposes_S16x256x2x1024_S2x16x256x1024_2_0_1_3

/-- The blocks an index array names. -/
def taken (x : FVec F S2x16x256x1024 .f32) (q : IVec S2x16x1 32) : FVec F S2x16x256x1024 .f32 :=
  select (broadcastInDim S2x16x256x1024 ![0, 1] bcast_S2x16_S2x16x256x1024_0_1 (inRange q))
    (Host.gather gather_S2x16x256x1024_S2x16x1_S2x16x256x1024_23_1_0_0_1_2_112561024 x q)
    (broadcastInDim S2x16x256x1024 ![] bcast_S_S2x16x256x1024 (constant S_ .f32 0x7FC00000#32))

/-- Blocks put back in rows. -/
def unblocked (y : FVec F S2x16x256x1024 .f32) : FVec F S4096x2x1024 .f32 :=
  shapeCast S4096x2x1024 (transpose S16x256x2x1024 [1, 2, 0, 3] y transposes_S2x16x256x1024_S16x256x2x1024_1_2_0_3) shapeCasts_S16x256x2x1024_S4096x2x1024

/-- The permuted rows. -/
def permuted (x : FVec F S4096x2x1024 .f32) (p : IVec S2x16 32) : FVec F S4096x2x1024 .f32 :=
  unblocked (taken (blocks x) (wrapped p))

/-- All rows' projection by a weight. -/
def proj (a : FVec F S4096x2x1024 .f32) (w : FVec F S1024x1024 .f32) (b : FVec F S1024 .f32) : FVec F S4096x2x1024 .f32 :=
  addf (Host.dotGeneral dot_S4096x2x1024_S1024x1024_S4096x2x1024_2_0_01_1_n_n none a (transpose S1024x1024 [1, 0] w transposes_S1024x1024_S1024x1024_1_0))
    (broadcastInDim S4096x2x1024 ![0, 1, 2] bcast_S1x1x1024_S4096x2x1024_0_1_2 (broadcastInDim S1x1x1024 ![2] bcast_S1024_S1x1x1024_2 b))

/-- A projection by batch element, head, block, row and column. -/
def heads (a : FVec F S4096x2x1024 .f32) : FVec F S2x16x16x256x64 .f32 :=
  shapeCast S2x16x16x256x64 (transpose S2x16x4096x64 [0, 2, 1, 3] (shapeCast S2x4096x16x64 (transpose S2x4096x1024 [1, 0, 2] a transposes_S4096x2x1024_S2x4096x1024_1_0_2)
    shapeCasts_S2x4096x1024_S2x4096x16x64) transposes_S2x4096x16x64_S2x16x4096x64_0_2_1_3) shapeCasts_S2x16x4096x64_S2x16x16x256x64

/-- The scaled scores inside each block. -/
def scores (q k : FVec F S2x16x16x256x64 .f32) : FVec F S2x16x16x256x256 .f32 :=
  mulf (Host.dotGeneral dot_S2x16x16x256x64_S2x16x16x256x64_S2x16x16x256x256_4_4_3_3_012_012 none q k)
    (broadcastInDim S2x16x16x256x256 ![] bcast_S_S2x16x16x256x256 (constant S_ .f32 0x3E000000#32))

/-- The exponentials of a row of scores less its greatest. -/
def expScores (s : FVec F S2x16x16x256x256 .f32) : FVec F S2x16x16x256x256 .f32 :=
  Host.exp (subf s (broadcastInDim S2x16x16x256x256 ![0, 1, 2, 3, 4] bcast_S2x16x16x256x1_S2x16x16x256x256_0_1_2_3_4
    (broadcastInDim S2x16x16x256x1 ![0, 1, 2, 3] bcast_S2x16x16x256_S2x16x16x256x1_0_1_2_3
      (maximumf (broadcastInDim S2x16x16x256 ![] bcast_S_S2x16x16x256 (constant S_ .f32 0xFF800000#32))
        (Host.reduce FloatOps.maximumf s (constant S_ .f32 0xFF800000#32) reducesTo_S2x16x16x256x256_S2x16x16x256_d4 h_S_)))))

/-- The softmax weights against the values. -/
def attend (e : FVec F S2x16x16x256x256 .f32) (v : FVec F S2x16x16x256x64 .f32) : FVec F S2x16x16x256x64 .f32 :=
  Host.dotGeneral dot_S2x16x16x256x256_S2x16x16x256x64_S2x16x16x256x64_4_3_3_4_012_012 none
    (Host.divf e (broadcastInDim S2x16x16x256x256 ![0, 1, 2, 3, 4] bcast_S2x16x16x256x1_S2x16x16x256x256_0_1_2_3_4
      (broadcastInDim S2x16x16x256x1 ![0, 1, 2, 3] bcast_S2x16x16x256_S2x16x16x256x1_0_1_2_3
        (Host.reduceAdd e (constant S_ .f32 0x00000000#32) reducesTo_S2x16x16x256x256_S2x16x16x256_d4 h_S_)))) v

/-- The heads' results put back in rows. -/
def merged (o : FVec F S2x16x16x256x64 .f32) : FVec F S4096x2x1024 .f32 :=
  transpose S4096x2x1024 [1, 0, 2] (shapeCast S2x4096x1024 (transpose S2x4096x16x64 [0, 2, 1, 3]
    (shapeCast S2x16x4096x64 o shapeCasts_S2x16x16x256x64_S2x16x4096x64) transposes_S2x16x4096x64_S2x4096x16x64_0_2_1_3)
    shapeCasts_S2x4096x16x64_S2x4096x1024) transposes_S2x4096x1024_S4096x2x1024_1_0_2

/-- The permutation. -/
def perm (x : FVec F S4096x2x1024 .f32) (Wq : FVec F S1024x1024 .f32) (bq : FVec F S1024 .f32) (Wk : FVec F S1024x1024 .f32) (bk : FVec F S1024 .f32) : IVec S2x16 32 :=
  pick (step (step (step (step (step (logits (meanProj (means x) Wq bq) (meanProj (means x) Wk bk)))))))

/-- Attention inside the blocks of rows. -/
def attention (y : FVec F S4096x2x1024 .f32) (Wq : FVec F S1024x1024 .f32) (bq : FVec F S1024 .f32) (Wk : FVec F S1024x1024 .f32) (bk : FVec F S1024 .f32)
    (Wv : FVec F S1024x1024 .f32) (bv : FVec F S1024 .f32) : FVec F S4096x2x1024 .f32 :=
  merged (attend (expScores (scores (heads (proj y Wq bq)) (heads (proj y Wk bk)))) (heads (proj y Wv bv)))

/-- The whole reference. -/
def result (x : FVec F S4096x2x1024 .f32) (Wq : FVec F S1024x1024 .f32) (bq : FVec F S1024 .f32) (Wk : FVec F S1024x1024 .f32) (bk : FVec F S1024 .f32)
    (Wv : FVec F S1024x1024 .f32) (bv : FVec F S1024 .f32) (Wo : FVec F S1024x1024 .f32) (bo : FVec F S1024 .f32) : FVec F S4096x2x1024 .f32 :=
  proj (attention (permuted x (perm x Wq bq Wk bk)) Wq bq Wk bk Wv bv) Wo bo

variable (V0 : Valuation τ sig (Elt F))

theorem res_v18 : res_main_v18 V0 = logits (meanProj (means (V0 (Proc.devRef .tc main_arg0))) (V0 (Proc.devRef .tc main_arg1)) (V0 (Proc.devRef .tc main_arg2)))
    (meanProj (means (V0 (Proc.devRef .tc main_arg0))) (V0 (Proc.devRef .tc main_arg3)) (V0 (Proc.devRef .tc main_arg4))) := rfl
theorem res_v40 : res_main_v40 V0 = step (res_main_v18 V0) := rfl
theorem res_v62 : res_main_v62 V0 = step (res_main_v40 V0) := rfl
theorem res_v84 : res_main_v84 V0 = step (res_main_v62 V0) := rfl
theorem res_v106 : res_main_v106 V0 = step (res_main_v84 V0) := rfl
theorem res_v129 : res_main_v129 V0 = Host.exp (step (res_main_v106 V0)) := rfl

/-- The permutation the run computes. -/
theorem res_v133 : res_main_v133 V0 = broadcastInDim S2x16x1x1 ![0, 1] bcast_S2x16_S2x16x1x1_0_1
    (perm (V0 (Proc.devRef .tc main_arg0)) (V0 (Proc.devRef .tc main_arg1)) (V0 (Proc.devRef .tc main_arg2)) (V0 (Proc.devRef .tc main_arg3)) (V0 (Proc.devRef .tc main_arg4))) := by
  unfold res_main_v133
  rw [res_v129, res_v106, res_v84, res_v62, res_v40, res_v18]
  rfl

/-- The rows the run gathers. -/
theorem res_v136 : res_main_v136 V0 = permuted (V0 (Proc.devRef .tc main_arg0))
    (perm (V0 (Proc.devRef .tc main_arg0)) (V0 (Proc.devRef .tc main_arg1)) (V0 (Proc.devRef .tc main_arg2)) (V0 (Proc.devRef .tc main_arg3)) (V0 (Proc.devRef .tc main_arg4))) := by
  unfold res_main_v136 res_main_call1_v5
  rw [res_v133]
  rfl

theorem res_v166 : res_main_v166 V0 = scores (heads (proj (res_main_v136 V0) (V0 (Proc.devRef .tc main_arg1)) (V0 (Proc.devRef .tc main_arg2))))
    (heads (proj (res_main_v136 V0) (V0 (Proc.devRef .tc main_arg3)) (V0 (Proc.devRef .tc main_arg4)))) := rfl
theorem res_v173 : res_main_v173 V0 = expScores (res_main_v166 V0) := rfl

/-- The result the run ends with. -/
theorem res_v187 : val4 V0 (Proc.devRef .tc main_v187)
    = result (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7)) (V0 (Proc.devRef .tc main_arg8)) := by
  rw [val4_main_v187, res_v173, res_v166, res_v136]
  rfl

end Cert.ReferenceIdeal.Stages

end
-- ==== Proof.Values.Sinkhorn.lean ====
/- The kernel's permutation arithmetic against the reference's, entry by entry over the extended reals: the means, the
   scaled products, and the row and column steps. -/
module

public import proofs.«01_k».proof.Proof.ReferenceIdeal.Stages
public import proofs.«01_k».proof.Proof.KernelIdeal.Perm
public import Idealize.ShloMosaic.Lib.Pointwise
public import Idealize.ShloMosaic.Lib.IdealHost

@[expose] public section

set_option maxRecDepth 16384

noncomputable section

namespace Cert.Values

open Idealize.ShloMosaic
open Cert.KernelIdeal Cert.ReferenceIdeal

/-- The pattern of thirty-two, and of its reciprocal. -/
theorem ofBits_32 : Ideal.ofBits .f32 0x42000000#32 = ((32 : ℝ) : EReal) := by
  simp [Ideal.ofBits, Ideal.ieee]; rw [← EReal.coe_mul]; norm_num
theorem ofBits_inv32 : Ideal.ofBits .f32 0x3D000000#32 = ((1 / 32 : ℝ) : EReal) := by
  simp [Ideal.ofBits, Ideal.ieee]; rw [← EReal.coe_mul]; norm_num
/-- The pattern of an eighth. -/
theorem ofBits_eighth : Ideal.ofBits .f32 0x3E000000#32 = ((1 / 8 : ℝ) : EReal) := by
  simp [Ideal.ofBits, Ideal.ieee]; rw [← EReal.coe_mul]; norm_num

/-- A kernel matrix is one batch element of a reference array. -/
def Agree (b : Fin 2) (la : FVec Ideal KernelIdeal.S16x16 .f32) (A : FVec Ideal ReferenceIdeal.S2x16x16 .f32) : Prop :=
  ∀ i j : Fin 16, la (ix2 i j) = A (ix3 b i j)

theorem rowStep_agree {b la A} (h : Agree b la A) : Agree b (Perm.rowStep la) (Stages.rowStep A) := by
  intro i j
  pointwise [Perm.rowStep, Perm.rowLse, Perm.rowMax, Stages.rowStep, Stages.rowMax]
  simp only [h _ _]

theorem colStep_agree {b la A} (h : Agree b la A) : Agree b (Perm.colStep la) (Stages.colStep A) := by
  intro i j
  pointwise [Perm.colStep, Perm.colLse, Perm.colMax, Stages.colStep, Stages.colMax]
  simp only [h _ _]

theorem step_agree {b la A} (h : Agree b la A) : Agree b (Perm.step la) (Stages.step A) :=
  colStep_agree (rowStep_agree h)

/-- Projected means agree where the means do. -/
theorem meanProj_agree (b : Fin 2) (xm : FVec Ideal KernelIdeal.S16x1024 .f32) (M : FVec Ideal ReferenceIdeal.S2x16x1024 .f32)
    (w : FVec Ideal KernelIdeal.S1024x1024 .f32) (b1 : FVec Ideal KernelIdeal.S1x1024 .f32) (b2 : FVec Ideal ReferenceIdeal.S1024 .f32)
    (h : ∀ (i : Fin 16) (k : Fin 1024), xm (ix2 i k) = M (ix3 b i k)) (hb : ∀ k : Fin 1024, b1 (ix2 0 k) = b2 (ix1 k))
    (i : Fin 16) (k : Fin 1024) : Perm.meanProj xm w b1 (ix2 i k) = Stages.meanProj M w b2 (ix3 b i k) := by
  pointwise [Perm.meanProj, Stages.meanProj]
  simp only [h, hb]

/-- So the scaled products do. -/
theorem logits_agree (b : Fin 2) (xm : FVec Ideal KernelIdeal.S16x1024 .f32) (M : FVec Ideal ReferenceIdeal.S2x16x1024 .f32)
    (wq wk : FVec Ideal KernelIdeal.S1024x1024 .f32) (bq1 bk1 : FVec Ideal KernelIdeal.S1x1024 .f32) (bq2 bk2 : FVec Ideal ReferenceIdeal.S1024 .f32)
    (h : ∀ (i : Fin 16) (k : Fin 1024), xm (ix2 i k) = M (ix3 b i k))
    (hq : ∀ k : Fin 1024, bq1 (ix2 0 k) = bq2 (ix1 k)) (hk : ∀ k : Fin 1024, bk1 (ix2 0 k) = bk2 (ix1 k)) :
    Agree b (Perm.logits xm wq bq1 wk bk1) (Stages.logits (Stages.meanProj M wq bq2) (Stages.meanProj M wk bk2)) := by
  intro i j
  pointwise [Perm.logits, Stages.logits]
  simp only [meanProj_agree b xm M _ _ _ h hq, meanProj_agree b xm M _ _ _ h hk, ofBits_32, ofBits_inv32]
  rw [Ideal.div_coe (by norm_num)]

/-- One block's mean row, either batch element. -/
theorem meanRow_agree (x : FVec Ideal KernelIdeal.S256x2x1024 .f32) (X : FVec Ideal ReferenceIdeal.S4096x2x1024 .f32) (i : Fin 16)
    (h : ∀ (r : Fin 256) (b : Fin 2) (k : Fin 1024), x (ix3 r b k) = X (ix3 ⟨i.val * 256 + r.val, by omega⟩ b k)) (b : Fin 2) (k : Fin 1024) :
    Perm.meanRow x (ix2 (0 : Fin 1) (⟨b.val * 1024 + k.val, by omega⟩ : Fin 2048)) = Stages.means X (ix3 b i k) := by
  fin_cases b
  · pointwise [Perm.meanRow, Perm.meanOf, Perm.half0, Perm.half1, Stages.means]
    simp [h]
  · pointwise [Perm.meanRow, Perm.meanOf, Perm.half0, Perm.half1, Stages.means]
    simp [h]

end Cert.Values

end
-- ==== Proof.Values.Argmax.lean ====
/- Each row's first greatest entry: the kernel takes the least of the positions whose entry is at least the row's greatest,
   the reference folds an arg-max over the row's (entry, position) pairs. Over the extended reals both are the one position
   `k` whose entry no other exceeds and that comes first among those equal to it. -/
module

public import proofs.«01_k».proof.Proof.Values.Sinkhorn
public import Idealize.ShloMosaic.Lib.SortNet.Extract

@[expose] public section

set_option maxRecDepth 16384

noncomputable section

namespace Cert.Values

open Idealize.ShloMosaic
open Cert.KernelIdeal Cert.ReferenceIdeal
open Idealize.ShloMosaic.SortNet (toInt_minsi)

/-- The first greatest of sixteen values. -/
def IsFirst (f : Fin 16 → EReal) (k : Fin 16) : Prop := (∀ l, f l ≤ f k) ∧ ∀ l, f l = f k → k ≤ l

theorem IsFirst.unique {f : Fin 16 → EReal} {k l : Fin 16} (hk : IsFirst f k) (hl : IsFirst f l) : k = l :=
  have e : f k = f l := le_antisymm (hl.1 k) (hk.1 l)
  le_antisymm (hk.2 l e.symm) (hl.2 k e)

/-- A left fold of an operation that keeps the better of two values keeps the best of the start and the list. -/
theorem foldl_best {α ι : Type} (le : α → α → Prop) (hrefl : ∀ a, le a a) (htrans : ∀ a b c, le a b → le b c → le a c)
    (g : α → α → α) (hg : ∀ a b, (g a b = a ∨ g a b = b) ∧ le (g a b) a ∧ le (g a b) b) (x : ι → α) (l : List ι) (a : α) :
    (l.foldl (fun r n => g r (x n)) a = a ∨ ∃ n ∈ l, l.foldl (fun r n => g r (x n)) a = x n)
      ∧ le (l.foldl (fun r n => g r (x n)) a) a ∧ ∀ n ∈ l, le (l.foldl (fun r n => g r (x n)) a) (x n) := by
  induction l generalizing a with
  | nil => exact ⟨.inl rfl, hrefl a, fun n hn => absurd hn List.not_mem_nil⟩
  | cons m l ih =>
    obtain ⟨h1, h2, h3⟩ := ih (g a (x m))
    obtain ⟨hs, ha, hm⟩ := hg a (x m)
    refine ⟨?_, htrans _ _ _ h2 ha, ?_⟩
    · rcases h1 with h1 | ⟨n, hn, h1⟩
      · rcases hs with hs | hs
        · exact .inl (h1.trans hs)
        · exact .inr ⟨m, List.mem_cons_self, h1.trans hs⟩
      · exact .inr ⟨n, List.mem_cons_of_mem _ hn, h1⟩
    · intro n hn
      rcases List.mem_cons.mp hn with rfl | hn
      · exact htrans _ _ _ h2 hm
      · exact h3 n hn

/-- The pattern of −∞. -/
theorem ofBits_neg_inf : Ideal.ofBits .f32 0xFF800000#32 = (⊥ : EReal) := by
  simp [Ideal.ofBits, Ideal.ieee]

/-- A fold of maxima from −∞ is attained. -/
theorem fold_max_attained (f : Fin 16 → EReal) : (∀ l, f l ≤ Finset.univ.fold max ⊥ f) ∧ ∃ k, f k = Finset.univ.fold max ⊥ f := by
  have e : Finset.univ.fold max ⊥ f = Finset.univ.sup f := rfl
  rw [e]
  refine ⟨fun l => Finset.le_sup (Finset.mem_univ l), ?_⟩
  obtain ⟨k, -, hk⟩ := Finset.exists_mem_eq_sup Finset.univ ⟨0, Finset.mem_univ _⟩ f
  exact ⟨k, hk.symm⟩

/-- The word of a small number. -/
theorem toInt_small (n : Fin 17) : (BitVec.ofNat 32 n.val).toInt = n.val := by
  revert n; decide

/-- The kernel's candidate at a position: the position where the entry is at least the greatest, sixteen elsewhere. -/
def cand (f : Fin 16 → EReal) (k : Fin 16) : BitVec 32 :=
  if Finset.univ.fold max ⊥ f ≤ f k then BitVec.ofNat 32 k.val else 16#32

/-- The kernel's choice. -/
theorem pick_isFirst (la : FVec Ideal KernelIdeal.S16x16 .f32) (i : Fin 16) :
    ∃ k : Fin 16, IsFirst (fun l => Ideal.exp (la (ix2 i l))) k ∧ Perm.pick la (ix2 i (0 : Fin 1)) = BitVec.ofNat 32 k.val := by
  set f : Fin 16 → EReal := fun l => Ideal.exp (la (ix2 i l)) with hf
  obtain ⟨hmax, k0, hk0⟩ := fold_max_attained f
  have hx : ∀ k : Fin 16, (select (cmpf .oge (exp la) (broadcastTo KernelIdeal.S16x16 (shapeCast KernelIdeal.S16x1
      (multiReduction .maximumf [1] KernelIdeal.S16 (exp la) 0xFF800000#32 KernelIdeal.Gen.reduces_S16x16_S16 (.inl rfl) rfl) KernelIdeal.Gen.shapeCasts_S16_S16x1) KernelIdeal.Gen.broadcasts_S16x1_S16x16))
      (iota .tc KernelIdeal.S16x16 32 [1] KernelIdeal.Gen.iota_S16x16_d1_w32) (broadcast KernelIdeal.S16x16 16#32)) (ix2 i k) = cand f k := by
    intro k
    pointwise []
    rw [ofBits_neg_inf]
    rfl
  generalize hX : select (cmpf .oge (exp la) (broadcastTo KernelIdeal.S16x16 (shapeCast KernelIdeal.S16x1
      (multiReduction .maximumf [1] KernelIdeal.S16 (exp la) 0xFF800000#32 KernelIdeal.Gen.reduces_S16x16_S16 (.inl rfl) rfl) KernelIdeal.Gen.shapeCasts_S16_S16x1) KernelIdeal.Gen.broadcasts_S16x1_S16x16))
      (iota .tc KernelIdeal.S16x16 32 [1] KernelIdeal.Gen.iota_S16x16_d1_w32) (broadcast KernelIdeal.S16x16 16#32) = X at hx
  have e : Perm.pick la (ix2 i (0 : Fin 1)) = reduceFold KernelIdeal.Gen.reduces_S16x16_S16 IntOp.minsi 2147483647#32 X (ix1 i) := by
    rw [← hX]
    unfold Perm.pick
    pointwise []
  rw [e]
  obtain ⟨h1, h2, h3⟩ := foldl_best (fun a b : BitVec 32 => a.toInt ≤ b.toInt) (fun _ => le_rfl) (fun _ _ _ => le_trans) IntOp.minsi
    (fun a b => by
      refine ⟨?_, ?_, ?_⟩
      · unfold IntOp.minsi; split <;> simp
      · rw [toInt_minsi]; exact min_le_left _ _
      · rw [toInt_minsi]; exact min_le_right _ _)
    (fun n => X (KernelIdeal.S16x16.rowMajor.symm n))
    ((List.finRange KernelIdeal.S16x16.numel).filter fun n => KernelIdeal.Gen.reduces_S16x16_S16.drop (KernelIdeal.S16x16.rowMajor.symm n) = ix1 i) 2147483647#32
  set r := reduceFold KernelIdeal.Gen.reduces_S16x16_S16 IntOp.minsi 2147483647#32 X (ix1 i) with hr
  have hmem : ∀ k : Fin 16, r.toInt ≤ (cand f k).toInt := by
    intro k
    have := h3 (KernelIdeal.S16x16.rowMajor (ix2 i k)) (by
      simp only [List.mem_filter, List.mem_finRange, true_and, Equiv.symm_apply_apply, decide_eq_true_eq]
      funext b
      obtain rfl : b = 0 := Subsingleton.elim _ _
      exact Fin.ext (KernelIdeal.Gen.reduces_S16x16_S16.drop_apply_val_of_eq (ix2 i k) 0 0))
    simp only [Equiv.symm_apply_apply, hx] at this
    exact this
  have hk0' : cand f k0 = BitVec.ofNat 32 k0.val := if_pos hk0.ge
  have hlt : r.toInt < 16 := by
    have := hmem k0
    rw [hk0', toInt_small ⟨k0.val, by omega⟩] at this
    have := k0.isLt
    simp only at *
    omega
  have hsome : ∃ k : Fin 16, r = cand f k := by
    rcases h1 with h1 | ⟨n, hn, h1⟩
    · exact absurd hlt (by rw [show r = 2147483647#32 from h1]; decide)
    · simp only [List.mem_filter, List.mem_finRange, true_and, decide_eq_true_eq] at hn
      set y := KernelIdeal.S16x16.rowMajor.symm n
      have hy : y = ix2 i (y 1) := by
        have h0 : (y 0).val = i.val := by
          have := congrArg (fun z : KernelIdeal.S16.Idx => (z 0).val) hn
          exact (KernelIdeal.Gen.reduces_S16x16_S16.drop_apply_val_of_eq y 0 0).symm.trans this
        funext b
        match b with
        | ⟨0, _⟩ => exact Fin.ext h0
        | ⟨1, _⟩ => rfl
      exact ⟨y 1, (show r = X y from h1).trans ((congrArg X hy).trans (hx (y 1)))⟩
  obtain ⟨k, hk⟩ := hsome
  have hck : Finset.univ.fold max ⊥ f ≤ f k := by
    by_contra hc
    rw [hk, cand, if_neg hc] at hlt
    exact absurd hlt (by decide)
  refine ⟨k, ⟨fun l => (hmax l).trans hck, fun l hl => ?_⟩, hk.trans (if_pos hck)⟩
  have := hmem l
  rw [hk, cand, cand, if_pos hck, if_pos (hck.trans hl.ge), toInt_small ⟨k.val, by omega⟩, toInt_small ⟨l.val, by omega⟩] at this
  exact_mod_cast this

/-- The reference's choice. -/
theorem refPick_isFirst (A : FVec Ideal ReferenceIdeal.S2x16x16 .f32) (b : Fin 2) (i : Fin 16) :
    ∃ k : Fin 16, IsFirst (fun l => Ideal.exp (A (ix3 b i l))) k ∧ Stages.pick A (ix2 b i) = BitVec.ofNat 32 k.val := by
  set f : Fin 16 → EReal := fun l => Ideal.exp (A (ix3 b i l)) with hf
  unfold Stages.pick
  rw [Ideal.argReduce_eq_reduce2]
  obtain ⟨h1, h2, h3⟩ := foldl_best (fun p q : Ideal .f32 × BitVec 32 => (q.1 : EReal) ≤ p.1 ∧ ((q.1 : EReal) = p.1 → p.2.toInt ≤ q.2.toInt))
    (fun a => ⟨le_rfl, fun _ => le_rfl⟩)
    (fun a b c hab hbc => ⟨hbc.1.trans hab.1, fun e => by
      have e1 : (b.1 : EReal) = a.1 := le_antisymm hab.1 (e ▸ hbc.1)
      exact (hab.2 e1).trans (hbc.2 (e.trans e1.symm))⟩)
    reducer_argmax_f32_i32
    (fun a b => by
      obtain ⟨av, ai⟩ := a
      obtain ⟨bv, bi⟩ := b
      simp only [reducer_argmax_f32_i32, Ideal.cmpf_def, Ideal.cmp, IntOp.cmpi, IntOp.ori, IntOp.andi, Scalar.select]
      rcases lt_trichotomy (av : EReal) bv with h | h | h
      · simp [h, h.not_gt, h.ne, h.le]
      · subst h
        by_cases hi : ai.slt bi
        · simp [hi]
          simp [BitVec.slt] at hi
          omega
        · simp [hi]
          simp [BitVec.slt] at hi
          omega
      · simp [h, h.not_gt, h.ne', h.le]
        exact fun e => absurd e (ne_of_lt h))
    (fun n => ((Host.exp A) (ReferenceIdeal.S2x16x16.rowMajor.symm n), (iotaInDim ReferenceIdeal.S2x16x16 32 2) (ReferenceIdeal.S2x16x16.rowMajor.symm n)))
    ((List.finRange ReferenceIdeal.S2x16x16.numel).filter fun n => ReferenceIdeal.Gen.reducesTo_S2x16x16_S2x16_d2.drop (ReferenceIdeal.S2x16x16.rowMajor.symm n) = ix2 b i) (⊥, 0#32)
  set r := Host.reduce2 reducer_argmax_f32_i32 (Host.exp A) (iotaInDim ReferenceIdeal.S2x16x16 32 2) (constant (F := Ideal) ReferenceIdeal.S_ .f32 0xFF800000#32)
    (constantI ReferenceIdeal.S_ 32 0#32) ReferenceIdeal.Gen.reducesTo_S2x16x16_S2x16_d2 ReferenceIdeal.Gen.h_S_ (ix2 b i) with hr
  have hr' : r = (((List.finRange ReferenceIdeal.S2x16x16.numel).filter fun n => ReferenceIdeal.Gen.reducesTo_S2x16x16_S2x16_d2.drop (ReferenceIdeal.S2x16x16.rowMajor.symm n) = ix2 b i).foldl
      (fun r n => reducer_argmax_f32_i32 r ((Host.exp A) (ReferenceIdeal.S2x16x16.rowMajor.symm n), (iotaInDim ReferenceIdeal.S2x16x16 32 2) (ReferenceIdeal.S2x16x16.rowMajor.symm n))) (⊥, 0#32)) := by
    rw [hr, ← ofBits_neg_inf]
    rfl
  rw [← hr'] at h1 h2 h3
  have hmem : ∀ k : Fin 16, f k ≤ r.1 ∧ (f k = r.1 → r.2.toInt ≤ k.val) := by
    intro k
    have := h3 (ReferenceIdeal.S2x16x16.rowMajor (ix3 b i k)) (by
      simp only [List.mem_filter, List.mem_finRange, true_and, Equiv.symm_apply_apply, decide_eq_true_eq]
      funext a
      match a with
      | ⟨0, _⟩ => exact Fin.ext (ReferenceIdeal.Gen.reducesTo_S2x16x16_S2x16_d2.drop_apply_val_of_eq (ix3 b i k) 0 0)
      | ⟨1, _⟩ => exact Fin.ext (ReferenceIdeal.Gen.reducesTo_S2x16x16_S2x16_d2.drop_apply_val_of_eq (ix3 b i k) 1 1))
    simp only [Equiv.symm_apply_apply] at this
    refine ⟨this.1, fun e => ?_⟩
    have h4 := this.2 e
    rw [show (iotaInDim ReferenceIdeal.S2x16x16 32 2 (ix3 b i k)) = BitVec.ofNat 32 k.val from rfl, toInt_small ⟨k.val, by omega⟩] at h4
    exact h4
  rcases h1 with h1 | ⟨n, hn, h1⟩
  · have hv : (r.1 : EReal) = ⊥ := congrArg Prod.fst h1
    have hi : r.2 = 0#32 := congrArg Prod.snd h1
    have hb : ∀ l, f l = ⊥ := fun l => le_bot_iff.mp (hv ▸ (hmem l).1)
    exact ⟨0, ⟨fun l => by rw [hb l, hb 0], fun l _ => Fin.zero_le l⟩, hi⟩
  · simp only [List.mem_filter, List.mem_finRange, true_and, decide_eq_true_eq] at hn
    set y := ReferenceIdeal.S2x16x16.rowMajor.symm n
    have hy : y = ix3 b i (y 2) := by
      have h0 : (y 0).val = b.val :=
        (ReferenceIdeal.Gen.reducesTo_S2x16x16_S2x16_d2.drop_apply_val_of_eq y 0 0).symm.trans (congrArg (fun z : ReferenceIdeal.S2x16.Idx => (z 0).val) hn)
      have h1 : (y 1).val = i.val :=
        (ReferenceIdeal.Gen.reducesTo_S2x16x16_S2x16_d2.drop_apply_val_of_eq y 1 1).symm.trans (congrArg (fun z : ReferenceIdeal.S2x16.Idx => (z 1).val) hn)
      funext a
      match a with
      | ⟨0, _⟩ => exact Fin.ext h0
      | ⟨1, _⟩ => exact Fin.ext h1
      | ⟨2, _⟩ => rfl
    have hv : (r.1 : EReal) = f (y 2) := (congrArg Prod.fst h1).trans (congrArg (Host.exp A) hy)
    have hi : r.2 = BitVec.ofNat 32 (y 2).val := congrArg Prod.snd h1
    refine ⟨y 2, ⟨fun l => hv ▸ (hmem l).1, fun l hl => ?_⟩, hi⟩
    have := (hmem l).2 (hl.trans hv.symm)
    rw [hi, toInt_small ⟨(y 2).val, by have : (y 2).val < 16 := (y 2).isLt; omega⟩] at this
    exact_mod_cast this

/-- So where the matrices agree, the choices do, and both name one of the sixteen blocks. -/
theorem pick_agree {b la A} (h : Agree b la A) (i : Fin 16) :
    ∃ k : Fin 16, Perm.pick la (ix2 i (0 : Fin 1)) = BitVec.ofNat 32 k.val ∧ Stages.pick A (ix2 b i) = BitVec.ofNat 32 k.val := by
  obtain ⟨k, hk, e⟩ := pick_isFirst la i
  obtain ⟨l, hl, e'⟩ := refPick_isFirst A b i
  have hf : (fun l => Ideal.exp (la (ix2 i l))) = fun l => Ideal.exp (A (ix3 b i l)) := funext fun l => by rw [h]
  rw [hf] at hk
  obtain rfl := hk.unique hl
  exact ⟨k, e, e'⟩

end Cert.Values

end
-- ==== Proof.Values.Attention.lean ====
/- Attention inside one block: what the kernel computes of a block of rows and the packed weights, against the reference's
   projections, scores, weights and output at that block's rows. The kernel folds the scores' eighth into its query weights,
   keeps the bias as one more weight row, and multiplies by the reciprocal of the sum of the exponentials. -/
module

public import proofs.«01_k».proof.Proof.Values.Sinkhorn
public import proofs.«01_k».proof.Proof.Values.Argmax
public import proofs.«01_k».proof.Proof.KernelIdeal.Attn

@[expose] public section

set_option maxRecDepth 16384

noncomputable section

namespace Cert.Values

open Idealize.ShloMosaic
open Cert.KernelIdeal Cert.ReferenceIdeal

/-! ## A nonnegative real factor and sums -/

theorem add_mul_coe (a b : EReal) (c : ℝ) (hc : 0 ≤ c) : (a + b) * (c : EReal) = a * c + b * c :=
  EReal.right_distrib_of_nonneg_of_ne_top (by exact_mod_cast hc) (EReal.coe_ne_top c) a b

theorem sum_mul_coe {n : Nat} (f : Fin n → EReal) (c : ℝ) (hc : 0 ≤ c) : (∑ k, f k) * (c : EReal) = ∑ k, f k * c := by
  induction n with
  | zero => simp
  | succ n ih => rw [Fin.sum_univ_succ, Fin.sum_univ_succ, add_mul_coe _ _ c hc, ih]

/-! ## Projections -/

/-- The 128 extra rows contribute the first of them. -/
theorem sum_first (f : Fin 128 → EReal) :
    ∑ x : Fin 128, Scalar.select (IntOp.cmpi .eq (BitVec.ofNat 32 x.val) 0#32) (f x) 0 = f 0 := by
  rw [Finset.sum_eq_single 0]
  · rfl
  · intro x _ hx
    have : IntOp.cmpi .eq (BitVec.ofNat 32 x.val) 0#32 = 0#1 := by
      revert x; decide
    rw [this]; rfl
  · intro h; exact absurd (Finset.mem_univ _) h

/-- A projection by a packed slice: the weight rows, then the bias row. -/
theorem proj_apply (x : FVec Ideal KernelIdeal.S256x1024 .bf16) (w : FVec Ideal KernelIdeal.S1152x1024 .bf16) (r : Fin 256) (c : Fin 1024) :
    Attn.proj x w (ix2 r c) = ∑ k : Fin 1024, x (ix2 r k) * w (ix2 ⟨k.val, by omega⟩ c) + w (ix2 ⟨1024, by omega⟩ c) := by
  pointwise [Attn.proj, Attn.augRows]
  rw [sum_first fun x => w (ix2 ⟨1024 + x.val, by omega⟩ c)]
  rfl

/-- A packed slice holds a weight and its bias. -/
def Packs (w : FVec Ideal KernelIdeal.S1152x1024 .bf16) (W : FVec Ideal ReferenceIdeal.S1024x1024 .f32) (b : FVec Ideal ReferenceIdeal.S1024 .f32) : Prop :=
  (∀ k c : Fin 1024, w (ix2 ⟨k.val, by omega⟩ c) = W (ix2 c k)) ∧ ∀ c : Fin 1024, w (ix2 ⟨1024, by omega⟩ c) = b (ix1 c)

/-- A packed slice holds a weight and its bias, an eighth of each. -/
def PacksEighth (w : FVec Ideal KernelIdeal.S1152x1024 .bf16) (W : FVec Ideal ReferenceIdeal.S1024x1024 .f32) (b : FVec Ideal ReferenceIdeal.S1024 .f32) : Prop :=
  (∀ k c : Fin 1024, w (ix2 ⟨k.val, by omega⟩ c) = W (ix2 c k) * ((1 / 8 : ℝ) : EReal))
    ∧ ∀ c : Fin 1024, w (ix2 ⟨1024, by omega⟩ c) = b (ix1 c) * ((1 / 8 : ℝ) : EReal)

/-- A row number from its block and its place there. -/
abbrev row (i : Fin 16) (r : Fin 256) : Fin 4096 := ⟨i.val * 256 + r.val, by omega⟩

/-- A kernel block is one block of one batch element's rows. -/
def Block (x : FVec Ideal KernelIdeal.S256x1024 .bf16) (y : FVec Ideal ReferenceIdeal.S4096x2x1024 .f32) (b : Fin 2) (i : Fin 16) : Prop :=
  ∀ (r : Fin 256) (c : Fin 1024), x (ix2 r c) = y (ix3 (row i r) b c)

theorem refProj_apply (y : FVec Ideal ReferenceIdeal.S4096x2x1024 .f32) (W b) (n : Fin 4096) (t : Fin 2) (c : Fin 1024) :
    Stages.proj y W b (ix3 n t c) = ∑ k : Fin 1024, y (ix3 n t k) * W (ix2 c k) + b (ix1 c) := by
  pointwise [Stages.proj]

theorem proj_block {x y b i w W bias} (hx : Block x y b i) (hw : Packs w W bias) : Block (Attn.proj x w) (Stages.proj y W bias) b i := by
  intro r c
  rw [proj_apply, refProj_apply]
  simp only [hx _ _, hw.1 _ _, hw.2 _]

theorem projQ_block {x y b i w W bias} (hx : Block x y b i) (hw : PacksEighth w W bias) (r : Fin 256) (c : Fin 1024) :
    Attn.proj x w (ix2 r c) = Stages.proj y W bias (ix3 (row i r) b c) * ((1 / 8 : ℝ) : EReal) := by
  rw [proj_apply, refProj_apply, add_mul_coe _ _ _ (by norm_num), sum_mul_coe _ _ (by norm_num)]
  simp only [hx _ _, hw.1 _ _, hw.2 _, mul_assoc]

/-! ## Scores -/

/-- The column of one head's width. -/
abbrev col (h : Fin 16) (c : Fin 64) : Fin 1024 := ⟨64 * h.val + c.val, by omega⟩

/-- The reference's scaled score of a query row and a key row of one block. -/
def score (q k : FVec Ideal ReferenceIdeal.S4096x2x1024 .f32) (b : Fin 2) (h i : Fin 16) (r c : Fin 256) : EReal :=
  (∑ x : Fin 64, q (ix3 (row i r) b (col h x)) * k (ix3 (row i c) b (col h x))) * ((1 / 8 : ℝ) : EReal)

theorem heads_apply (a : FVec Ideal ReferenceIdeal.S4096x2x1024 .f32) (b : Fin 2) (h i : Fin 16) (r : Fin 256) (c : Fin 64) :
    Stages.heads a (ix5 b h i r c) = a (ix3 (row i r) b (col h c)) := by
  pointwise [Stages.heads]
  congr 2
  exact Fin.ext (by simp only; omega)

theorem scores_apply (q k : FVec Ideal ReferenceIdeal.S4096x2x1024 .f32) (b : Fin 2) (h i : Fin 16) (r c : Fin 256) :
    Stages.scores (Stages.heads q) (Stages.heads k) (ix5 b h i r c) = score q k b h i r c := by
  pointwise [Stages.scores]
  rw [ofBits_eighth]
  simp only [heads_apply]
  rfl

/-- A maximum over one axis, at an index: the greatest entry along that axis. -/
theorem reduceMax_apply {s t u : Shape} {a : Fin s.rank} (x : s.Idx → EReal) (init : u.Idx → EReal) (h' : s.ReducesTo [a] t) (h : s.Reduces [a] t)
    (hu : 0 < u.numel) (j : t.Idx) :
    Host.reduce (FloatOps.maximumf (F := Ideal) (φ := .f32)) x init h' hu j = Finset.univ.fold max (init (Shape.Idx.first hu)) (x ∘ h.lift j) :=
  Host.reduce_eq_fold_single (max : EReal → EReal → EReal) x init h' h hu j

theorem hr_scores : ReferenceIdeal.S2x16x16x256x256.Reduces [4] ReferenceIdeal.S2x16x16x256 := by decide

theorem lift_scores (hr : ReferenceIdeal.S2x16x16x256x256.Reduces [4] ReferenceIdeal.S2x16x16x256) (b : Fin 2) (h i : Fin 16) (r : Fin 256)
    (k : Fin (ReferenceIdeal.S2x16x16x256x256.size 4)) : hr.lift (ix4 b h i r) k = ix5 b h i r k := by
  refine funext fun a => Fin.ext ?_
  match a with
  | ⟨0, _⟩ => exact (hr.lift_val _ _ _).trans rfl
  | ⟨1, _⟩ => exact (hr.lift_val _ _ _).trans rfl
  | ⟨2, _⟩ => exact (hr.lift_val _ _ _).trans rfl
  | ⟨3, _⟩ => exact (hr.lift_val _ _ _).trans rfl
  | ⟨4, _⟩ => exact (hr.lift_val _ _ _).trans rfl

/-- The greatest of a row of scores, from −∞. -/
theorem scoresMax_apply (s : FVec Ideal ReferenceIdeal.S2x16x16x256x256 .f32) (b : Fin 2) (h i : Fin 16) (r : Fin 256) :
    Host.reduce (FloatOps.maximumf (F := Ideal) (φ := .f32)) s (constant ReferenceIdeal.S_ .f32 0xFF800000#32) ReferenceIdeal.Gen.reducesTo_S2x16x16x256x256_S2x16x16x256_d4 ReferenceIdeal.Gen.h_S_
      (ix4 b h i r) = Finset.univ.fold max (⊥ : EReal) fun k : Fin 256 => s (ix5 b h i r k) := by
  have e : s ∘ hr_scores.lift (ix4 b h i r) = fun k : Fin (ReferenceIdeal.S2x16x16x256x256.size 4) => s (ix5 b h i r k) :=
    funext fun k => congrArg s (lift_scores _ b h i r k)
  have e0 : (constant (F := Ideal) ReferenceIdeal.S_ .f32 0xFF800000#32) (Shape.Idx.first ReferenceIdeal.Gen.h_S_) = (⊥ : EReal) := ofBits_neg_inf
  have := reduceMax_apply s (constant (F := Ideal) ReferenceIdeal.S_ .f32 0xFF800000#32) ReferenceIdeal.Gen.reducesTo_S2x16x16x256x256_S2x16x16x256_d4 hr_scores ReferenceIdeal.Gen.h_S_ (ix4 b h i r)
  rw [e, e0] at this
  exact this

/-- One number per row, spread over the row. -/
theorem rowsMax_apply (m : FVec Ideal ReferenceIdeal.S2x16x16x256 .f32) (b : Fin 2) (h i : Fin 16) (r c : Fin 256) :
    broadcastInDim ReferenceIdeal.S2x16x16x256x256 ![0, 1, 2, 3, 4] ReferenceIdeal.Gen.bcast_S2x16x16x256x1_S2x16x16x256x256_0_1_2_3_4
      (broadcastInDim ReferenceIdeal.S2x16x16x256x1 ![0, 1, 2, 3] ReferenceIdeal.Gen.bcast_S2x16x16x256_S2x16x16x256x1_0_1_2_3 m) (ix5 b h i r c) = m (ix4 b h i r) := by
  refine congrArg m (funext fun a => Fin.ext ?_)
  match a with
  | ⟨0, _⟩ => rfl
  | ⟨1, _⟩ => rfl
  | ⟨2, _⟩ => rfl
  | ⟨3, _⟩ => rfl

theorem expOf_apply (s M : FVec Ideal ReferenceIdeal.S2x16x16x256x256 .f32) (j) : (Host.exp (subf s M)) j = Ideal.exp (s j - M j) := rfl

/-- A maximum against −∞ everywhere. -/
theorem maxBot_apply (M : FVec Ideal ReferenceIdeal.S2x16x16x256 .f32) (j) :
    maximumf (broadcastInDim ReferenceIdeal.S2x16x16x256 ![] ReferenceIdeal.Gen.bcast_S_S2x16x16x256 (constant ReferenceIdeal.S_ .f32 0xFF800000#32)) M j = M j := by
  have : (broadcastInDim ReferenceIdeal.S2x16x16x256 ![] ReferenceIdeal.Gen.bcast_S_S2x16x16x256 (constant (F := Ideal) ReferenceIdeal.S_ .f32 0xFF800000#32)) j = (⊥ : EReal) := ofBits_neg_inf
  exact (congrArg (fun z => max z (M j)) this).trans (max_eq_right bot_le)

theorem refExp_apply (s : FVec Ideal ReferenceIdeal.S2x16x16x256x256 .f32) (b : Fin 2) (h i : Fin 16) (r c : Fin 256) :
    Stages.expScores s (ix5 b h i r c) = Ideal.exp (s (ix5 b h i r c) - Finset.univ.fold max (⊥ : EReal) fun k : Fin 256 => s (ix5 b h i r k)) := by
  unfold Stages.expScores
  rw [expOf_apply, rowsMax_apply, maxBot_apply, scoresMax_apply]

/-- The kernel's exponentials, keys down, are the reference's. -/
theorem exp_agree {xq xk q k b i} (hq : ∀ (r : Fin 256) (c : Fin 1024), xq (ix2 r c) = q (ix3 (row i r) b c) * ((1 / 8 : ℝ) : EReal)) (hk : Block xk k b i)
    (h : Fin 16) (r c : Fin 256) :
    Attn.expScores xq xk h (ix2 c r) = Stages.expScores (Stages.scores (Stages.heads q) (Stages.heads k)) (ix5 b h i r c) := by
  have hs : ∀ c : Fin 256, ∑ x : Fin 64, xk (ix2 c (col h x)) * xq (ix2 r (col h x)) = score q k b h i r c := by
    intro c
    rw [score, sum_mul_coe _ _ (by norm_num)]
    refine Finset.sum_congr rfl fun x _ => ?_
    rw [hk, hq, mul_comm (k _), mul_assoc, mul_assoc, mul_comm (k _)]
  rw [refExp_apply]
  simp only [scores_apply]
  pointwise [Attn.expScores]
  rw [ofBits_neg_inf]
  simp only [hs]

end Cert.Values

end
-- ==== Proof.Values.Block.lean ====
/- One block through the whole of attention and the output projection: the kernel's stored block is the reference's result at
   that block's rows, the scores being finite. -/
module

public import proofs.«01_k».proof.Proof.Values.Attention
public import Idealize.ShloMosaic.Lib.Pipeline.Value

@[expose] public section

set_option maxRecDepth 16384

noncomputable section

namespace Cert.Values

open Idealize.ShloMosaic
open Cert.KernelIdeal Cert.ReferenceIdeal

/-! ## Finiteness -/

/-- An extended real that is a real. -/
def IsReal (a : EReal) : Prop := ∃ r : ℝ, a = r

theorem IsReal.add {a b : EReal} : IsReal a → IsReal b → IsReal (a + b) := by
  rintro ⟨x, rfl⟩ ⟨y, rfl⟩; exact ⟨x + y, by norm_cast⟩
theorem IsReal.mul {a b : EReal} : IsReal a → IsReal b → IsReal (a * b) := by
  rintro ⟨x, rfl⟩ ⟨y, rfl⟩; exact ⟨x * y, by norm_cast⟩
theorem IsReal.sum {n : Nat} {f : Fin n → EReal} (h : ∀ k, IsReal (f k)) : IsReal (∑ k, f k) := by
  choose g hg using h
  refine ⟨∑ k, g k, ?_⟩
  simp only [hg]
  clear hg
  induction n with
  | zero => simp
  | succ n ih =>
    rw [Fin.sum_univ_succ, Fin.sum_univ_succ, EReal.coe_add, ih (f := fun k => f k.succ)]

/-- An array all of whose entries are reals. -/
def AllFin {s : Shape} (x : s.Idx → EReal) : Prop := ∀ j, IsReal (x j)

theorem proj_fin {y : FVec Ideal ReferenceIdeal.S4096x2x1024 .f32} {W b} (hy : AllFin y) (hW : AllFin W) (hb : AllFin b) (n t c) :
    IsReal (Stages.proj y W b (ix3 n t c)) := by
  rw [refProj_apply]
  exact (IsReal.sum fun k => (hy _).mul (hW _)).add (hb _)

theorem score_fin {q k : FVec Ideal ReferenceIdeal.S4096x2x1024 .f32} (hq : ∀ n t c, IsReal (q (ix3 n t c))) (hk : ∀ n t c, IsReal (k (ix3 n t c))) (b h i r c) :
    IsReal (score q k b h i r c) :=
  (IsReal.sum fun _ => (hq _ _ _).mul (hk _ _ _)).mul ⟨_, rfl⟩

/-- The greatest of finitely many extended reals is one of them. -/
theorem fold_max_mem (f : Fin 256 → EReal) : ∃ k, Finset.univ.fold max (⊥ : EReal) f = f k := by
  have h : Finset.univ.fold max (⊥ : EReal) f = Finset.univ.sup f := rfl
  obtain ⟨k, -, hk⟩ := Finset.exists_mem_eq_sup (s := Finset.univ) ⟨(0 : Fin 256), Finset.mem_univ _⟩ f
  exact ⟨k, h.trans hk⟩

/-- Of finite scores, the exponentials less the greatest do not sum to zero: the greatest one's is one. -/
theorem sum_exp_ne_zero (f : Fin 256 → EReal) (hf : ∀ k, IsReal (f k)) :
    ∑ k, Ideal.exp (f k - Finset.univ.fold max (⊥ : EReal) f) ≠ 0 := by
  obtain ⟨k, hk⟩ := fold_max_mem f
  have hnn : ∀ x : EReal, 0 ≤ Ideal.exp x := fun x => by
    induction x with
    | bot => exact le_refl (0 : EReal)
    | top => exact (le_top : (0 : EReal) ≤ ⊤)
    | coe r => exact EReal.coe_nonneg.2 (Real.exp_pos r).le
  have h1 : (1 : EReal) ≤ ∑ k, Ideal.exp (f k - Finset.univ.fold max (⊥ : EReal) f) := by
    refine le_trans (le_of_eq ?_) (Finset.single_le_sum (fun x _ => hnn _) (Finset.mem_univ k))
    obtain ⟨r, hr⟩ := hf k
    rw [hk, hr, ← EReal.coe_sub, sub_self]
    exact (congrArg ((↑) : ℝ → EReal) Real.exp_zero).symm
  exact fun h => absurd (h ▸ h1) (by simp)

/-- Multiplying by the reciprocal is dividing, off zero. -/
theorem mul_inv_eq_div (e s : EReal) (hs : s ≠ 0) : e * Ideal.div 1 s = Ideal.div e s := by
  simp only [Ideal.div, if_neg hs, one_mul]

/-! ## Heads -/

theorem head_apply (q k v : FVec Ideal KernelIdeal.S256x1024 .bf16) (h : Fin 16) (r : Fin 256) (c : Fin 64) :
    Attn.head q k v h (ix2 r c) = ∑ x : Fin 256, Attn.expScores q k h (ix2 x r) * Ideal.div 1 (∑ x : Fin 256, Attn.expScores q k h (ix2 x r)) * v (ix2 x (col h c)) := by
  pointwise [Attn.head]

theorem attend_apply (e : FVec Ideal ReferenceIdeal.S2x16x16x256x256 .f32) (v : FVec Ideal ReferenceIdeal.S2x16x16x256x64 .f32) (b : Fin 2) (h i : Fin 16) (r : Fin 256) (c : Fin 64) :
    Stages.attend e v (ix5 b h i r c) = ∑ x : Fin 256, Ideal.div (e (ix5 b h i r x)) (∑ x : Fin 256, e (ix5 b h i r x)) * v (ix5 b h i x c) := by
  pointwise [Stages.attend]

theorem merged_apply (o : FVec Ideal ReferenceIdeal.S2x16x16x256x64 .f32) (b : Fin 2) (h i : Fin 16) (r : Fin 256) (c : Fin 64) :
    Stages.merged o (ix3 (row i r) b (col h c)) = o (ix5 b h i r c) := by
  pointwise [Stages.merged]

theorem heads_col (q k v : FVec Ideal KernelIdeal.S256x1024 .bf16) (h : Fin 16) (r : Fin 256) (c : Fin 64) :
    Attn.heads q k v (ix2 r (col h c)) = Attn.head q k v h (ix2 r c) := by
  unfold Attn.heads
  refine concatenate_ofFn_apply (s₁ := KernelIdeal.S256x64) (t := KernelIdeal.S256x1024) (1 : Fin 2) (fun n : Fin 16 => Attn.head q k v n) _ rfl 64 rfl (ix2 r (col h c)) h ?_ (ix2 r c) ?_ ?_
  · show (64 * h.val + c.val) / 64 = h.val
    omega
  · show c.val = (64 * h.val + c.val) % 64
    omega
  · intro a ha
    match a with
    | ⟨0, _⟩ => rfl
    | ⟨1, _⟩ => exact absurd rfl ha

theorem heads_block {xq xk xv q k v b i} (hq : ∀ (r : Fin 256) (c : Fin 1024), xq (ix2 r c) = q (ix3 (row i r) b c) * ((1 / 8 : ℝ) : EReal))
    (hk : Block xk k b i) (hv : Block xv v b i) (hs : ∀ h r c, IsReal (score q k b h i r c)) :
    Block (Attn.heads xq xk xv) (Stages.merged (Stages.attend (Stages.expScores (Stages.scores (Stages.heads q) (Stages.heads k))) (Stages.heads v))) b i := by
  intro r c
  obtain ⟨h, c, rfl⟩ : ∃ (h : Fin 16) (d : Fin 64), c = col h d :=
    ⟨⟨c.val / 64, by omega⟩, ⟨c.val % 64, by omega⟩, Fin.ext (by simp only; omega)⟩
  rw [heads_col, merged_apply, head_apply, attend_apply]
  have hne : ∑ x : Fin 256, Stages.expScores (Stages.scores (Stages.heads q) (Stages.heads k)) (ix5 b h i r x) ≠ 0 := by
    simp only [refExp_apply, scores_apply]
    exact sum_exp_ne_zero _ (hs h r)
  simp only [exp_agree hq hk, mul_inv_eq_div _ _ hne, heads_apply]
  exact Finset.sum_congr rfl fun x _ => by rw [hv]

/-- A block of rows through attention. -/
theorem block_block {x y b i w Wq bq Wk bk Wv bv} (hx : Block x y b i) (hq : PacksEighth (Attn.wq w) Wq bq) (hk : Packs (Attn.wk w) Wk bk)
    (hv : Packs (Attn.wv w) Wv bv) (fy : AllFin y) (fq : AllFin Wq) (fbq : AllFin bq) (fk : AllFin Wk) (fbk : AllFin bk) :
    Block (Attn.block x w) (Stages.attention y Wq bq Wk bk Wv bv) b i :=
  heads_block (projQ_block hx hq) (proj_block hx hk) (proj_block hx hv) fun _ _ _ => score_fin (proj_fin fy fq fbq) (proj_fin fy fk fbk) _ _ _ _ _

/-- The stored block: each of its two batch columns, projected. -/
theorem finish_apply (a b : FVec Ideal KernelIdeal.S256x1024 .bf16) (w : FVec Ideal KernelIdeal.S1152x1024 .bf16) (r : Fin 256) (t : Fin 2) (c : Fin 1024) :
    Attn.finish a b w (ix3 r t c) = ∑ k : Fin 1024, (if t.val < 1 then a else b) (ix2 r k) * w (ix2 ⟨k.val, by omega⟩ c) + w (ix2 ⟨1024, by omega⟩ c) := by
  pointwise [Attn.finish, Attn.augBoth]
  rw [sum_first fun x => w (ix2 ⟨1024 + x.val, by omega⟩ c)]
  split <;> rfl

theorem out_apply {x0 x1 z i w Wo bo r t c} (h0 : Block (Attn.block x0 w) z 0 i) (h1 : Block (Attn.block x1 w) z 1 i) (ho : Packs (Attn.wo w) Wo bo) :
    Attn.out x0 x1 w (ix3 r t c) = Stages.proj z Wo bo (ix3 (row i r) t c) := by
  rw [Attn.out, finish_apply, refProj_apply]
  have : ∀ k : Fin 1024, (if t.val < 1 then Attn.block x0 w else Attn.block x1 w) (ix2 r k) = z (ix3 (row i r) t k) := by
    intro k
    fin_cases t
    · exact h0 r k
    · exact h1 r k
  simp only [this, ho.1 _ _, ho.2 _]

end Cert.Values

end
-- ==== Proof.Values.Packed.lean ====
/- The packed weights, slice by slice: each of the four 1152-row slices holds a weight, its bias row and zeros; the queries'
   slice holds an eighth of each. -/
module

public import proofs.«01_k».proof.Proof.Values.Block
public import proofs.«01_k».proof.Proof.KernelIdeal.Perm

@[expose] public section

set_option maxRecDepth 16384

noncomputable section

namespace Cert.Values

open Idealize.ShloMosaic
open Cert.KernelIdeal Cert.ReferenceIdeal

/-- A packed weight: the weight transposed over its bias row. -/
theorem pack_row (w : FVec Ideal KernelIdeal.S1024x1024 .f32) (b : FVec Ideal KernelIdeal.S1x1024 .f32) (k c : Fin 1024) :
    Perm.pack w b (ix2 ⟨k.val, by omega⟩ c) = w (ix2 c k) := by
  pointwise [Perm.pack]

theorem pack_bias (w : FVec Ideal KernelIdeal.S1024x1024 .f32) (b : FVec Ideal KernelIdeal.S1x1024 .f32) (c : Fin 1024) :
    Perm.pack w b (ix2 ⟨1024, by omega⟩ c) = b (ix2 (0 : Fin 1) c) := by
  pointwise [Perm.pack]

/-- Packing packs. -/
theorem packP_packs {w : FVec Ideal KernelIdeal.S1024x1024 .f32} {b : FVec Ideal KernelIdeal.S1x1024 .f32} {b' : FVec Ideal ReferenceIdeal.S1024 .f32}
    (h : ∀ c, b (ix2 (0 : Fin 1) c) = b' (ix1 c)) : Packs (Perm.packP w b) w b' := by
  refine ⟨fun k c => pack_row _ _ k c, fun c => (pack_bias _ _ c).trans ?_⟩
  rw [← h c]
  pointwise []

theorem packQ_packs {w : FVec Ideal KernelIdeal.S1024x1024 .f32} {b : FVec Ideal KernelIdeal.S1x1024 .f32} {b' : FVec Ideal ReferenceIdeal.S1024 .f32}
    (h : ∀ c, b (ix2 (0 : Fin 1) c) = b' (ix1 c)) : PacksEighth (Perm.packQ w b) w b' := by
  refine ⟨fun k c => (pack_row _ _ k c).trans ?_, fun c => (pack_bias _ _ c).trans ?_⟩
  · rw [← ofBits_eighth]
    rfl
  · rw [← h c, ← ofBits_eighth]
    pointwise []

variable (Wq : FVec Ideal KernelIdeal.S1024x1024 .f32) (bq : FVec Ideal KernelIdeal.S1x1024 .f32) (Wk : FVec Ideal KernelIdeal.S1024x1024 .f32) (bk : FVec Ideal KernelIdeal.S1x1024 .f32)
  (Wv : FVec Ideal KernelIdeal.S1024x1024 .f32) (bv : FVec Ideal KernelIdeal.S1x1024 .f32) (Wo : FVec Ideal KernelIdeal.S1024x1024 .f32) (bo : FVec Ideal KernelIdeal.S1x1024 .f32)

/-- A load of the last slice stored. -/
theorem ld_canon_head {Val : EltTy → Type} [∀ e, Nonempty (Val e)] {s : Shape} {e : EltTy} (r : Rect s) (w : r.shape.Idx → Val e) (L : List (View.Piece Val s e)) :
    View.ld (View.canon (⟨r, w⟩ :: L)) r = w :=
  funext fun y => View.canon_cons_emb r w L y

/-- A load that ends before the last slice stored begins. -/
theorem ld_canon_skip {Val : EltTy → Type} [∀ e, Nonempty (Val e)] {s : Shape} {e : EltTy} {off size off' size' : Fin s.rank → Nat} {inb inb'}
    (w : (Rect.unit off size inb).shape.Idx → Val e) (L : List (View.Piece Val s e)) (a : Fin s.rank) (h : off' a + size' a ≤ off a) :
    View.ld (View.canon (⟨Rect.unit off size inb, w⟩ :: L)) (Rect.unit off' size' inb') = View.ld (View.canon L) (Rect.unit off' size' inb') :=
  funext fun y => View.canon_cons_of_not_mem _ L fun hm => by
    have h0 := ((Rect.mem_set_unit (inb := inb)).1 hm a).1
    have h1 : ((Rect.unit off' size' inb').idx y a).val = off' a + 1 * (y a).val := rfl
    have h2 : (y a).val < size' a := (y a).isLt
    omega

theorem slice_o : Attn.wo (Perm.packed (F := Ideal) Wq bq Wk bk Wv bv Wo bo) = Perm.packP (F := Ideal) Wo bo := by
  unfold Attn.wo Perm.packed
  rw [ld_canon_head]

theorem slice_v : Attn.wv (Perm.packed (F := Ideal) Wq bq Wk bk Wv bv Wo bo) = Perm.packP (F := Ideal) Wv bv := by
  unfold Attn.wv Perm.packed
  rw [ld_canon_skip _ _ (0 : Fin 2) (by decide), ld_canon_head]

theorem slice_k : Attn.wk (Perm.packed (F := Ideal) Wq bq Wk bk Wv bv Wo bo) = Perm.packP (F := Ideal) Wk bk := by
  unfold Attn.wk Perm.packed
  rw [ld_canon_skip _ _ (0 : Fin 2) (by decide), ld_canon_skip _ _ (0 : Fin 2) (by decide), ld_canon_head]

theorem slice_q : Attn.wq (Perm.packed (F := Ideal) Wq bq Wk bk Wv bv Wo bo) = Perm.packQ (F := Ideal) Wq bq := by
  unfold Attn.wq Perm.packed
  rw [ld_canon_skip _ _ (0 : Fin 2) (by decide), ld_canon_skip _ _ (0 : Fin 2) (by decide),
    ld_canon_skip _ _ (0 : Fin 2) (by decide), ld_canon_head]

/-- A batch element's rows of a block, read. -/
theorem rows0_apply (x : FVec Ideal KernelIdeal.S256x2x1024 .f32) (r : Fin 256) (c : Fin 1024) : Perm.rows0 (F := Ideal) x (ix2 r c) = x (ix3 r (0 : Fin 2) c) := by
  pointwise [Perm.rows0, Perm.half0]
theorem rows1_apply (x : FVec Ideal KernelIdeal.S256x2x1024 .f32) (r : Fin 256) (c : Fin 1024) : Perm.rows1 (F := Ideal) x (ix2 r c) = x (ix3 r (1 : Fin 2) c) := by
  pointwise [Perm.rows1, Perm.half1]

end Cert.Values

end
-- ==== Proof.Values.Inputs.lean ====
/- What the permutation call reads and leaves: its blocks of the arguments, the two half arrays of rows, the packed weights. -/
module

public import proofs.«01_k».proof.Proof.KernelIdeal.Vals
public import proofs.«01_k».proof.Proof.Values.Packed

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

/-- The launch contents of a buffer. -/
abbrev arg (b : Ref sig .tc) : Buf (Elt Ideal) ((c : Thread nD τ).loc b) := m ((c : Thread nD τ).loc b)

/-! ## The host reshapes -/

theorem at1_v0 : at1 m c main_v0 = shapeCast S1x1024 (arg m c main_arg2) shapeCasts_S1024_S1x1024 := by
  unfold at1 W1 V1
  simp only [hostOps0, StableHlo.after_cons, StableHlo.after_nil]
  rw [StableHlo.reshape_result_ne (h := by decide), StableHlo.reshape_result_ne (h := by decide), StableHlo.reshape_result_ne (h := by decide), StableHlo.reshape_result]
  rfl

theorem at1_v1 : at1 m c main_v1 = shapeCast S1x1024 (arg m c main_arg4) shapeCasts_S1024_S1x1024 := by
  unfold at1 W1 V1
  simp only [hostOps0, StableHlo.after_cons, StableHlo.after_nil]
  rw [StableHlo.reshape_result_ne (h := by decide), StableHlo.reshape_result_ne (h := by decide), StableHlo.reshape_result, StableHlo.reshape_result_ne (h := by decide)]
  rfl

theorem at1_v2 : at1 m c main_v2 = shapeCast S1x1024 (arg m c main_arg6) shapeCasts_S1024_S1x1024 := by
  unfold at1 W1 V1
  simp only [hostOps0, StableHlo.after_cons, StableHlo.after_nil]
  rw [StableHlo.reshape_result_ne (h := by decide), StableHlo.reshape_result, StableHlo.reshape_result_ne (h := by decide), StableHlo.reshape_result_ne (h := by decide)]
  rfl

theorem at1_v3 : at1 m c main_v3 = shapeCast S1x1024 (arg m c main_arg8) shapeCasts_S1024_S1x1024 := by
  unfold at1 W1 V1
  simp only [hostOps0, StableHlo.after_cons, StableHlo.after_nil]
  rw [StableHlo.reshape_result, StableHlo.reshape_result_ne (h := by decide), StableHlo.reshape_result_ne (h := by decide), StableHlo.reshape_result_ne (h := by decide)]
  rfl

/-- A bias laid out as one row. -/
theorem bias_row (b : FVec Ideal S1024 .f32) (k : Fin 1024) : shapeCast S1x1024 b shapeCasts_S1024_S1x1024 (ix2 (0 : Fin 1) k) = b (Idealize.ShloMosaic.ix1 k) := by
  pointwise []

/-! ## The permutation call's blocks -/

theorem block_1 : Region0.iblk (at1 m) c 1 Region0.t₀ = arg m c main_arg1 := by
  refine funext fun y => ?_
  blk_simp [Region0.iblk]
  refine Eq.trans (congrArg (at1 m c main_arg1) (funext fun a => Fin.ext ?_)) (congrFun (V1_of m c main_arg1 (by decide)) y)
  exact (cfg0.win 1).rect_emb_val_of_index_zero Region0.t₀ a (by fin_cases a <;> rfl) y

theorem block_2 : Region0.iblk (at1 m) c 2 Region0.t₀ = at1 m c main_v0 := by
  refine funext fun y => ?_
  blk_simp [Region0.iblk]
  refine congrArg (at1 m c main_v0) (funext fun a => Fin.ext ?_)
  exact (cfg0.win 2).rect_emb_val_of_index_zero Region0.t₀ a (by fin_cases a <;> rfl) y

theorem block_3 : Region0.iblk (at1 m) c 3 Region0.t₀ = arg m c main_arg3 := by
  refine funext fun y => ?_
  blk_simp [Region0.iblk]
  refine Eq.trans (congrArg (at1 m c main_arg3) (funext fun a => Fin.ext ?_)) (congrFun (V1_of m c main_arg3 (by decide)) y)
  exact (cfg0.win 3).rect_emb_val_of_index_zero Region0.t₀ a (by fin_cases a <;> rfl) y

theorem block_4 : Region0.iblk (at1 m) c 4 Region0.t₀ = at1 m c main_v1 := by
  refine funext fun y => ?_
  blk_simp [Region0.iblk]
  refine congrArg (at1 m c main_v1) (funext fun a => Fin.ext ?_)
  exact (cfg0.win 4).rect_emb_val_of_index_zero Region0.t₀ a (by fin_cases a <;> rfl) y

theorem block_5 : Region0.iblk (at1 m) c 5 Region0.t₀ = arg m c main_arg5 := by
  refine funext fun y => ?_
  blk_simp [Region0.iblk]
  refine Eq.trans (congrArg (at1 m c main_arg5) (funext fun a => Fin.ext ?_)) (congrFun (V1_of m c main_arg5 (by decide)) y)
  exact (cfg0.win 5).rect_emb_val_of_index_zero Region0.t₀ a (by fin_cases a <;> rfl) y

theorem block_6 : Region0.iblk (at1 m) c 6 Region0.t₀ = at1 m c main_v2 := by
  refine funext fun y => ?_
  blk_simp [Region0.iblk]
  refine congrArg (at1 m c main_v2) (funext fun a => Fin.ext ?_)
  exact (cfg0.win 6).rect_emb_val_of_index_zero Region0.t₀ a (by fin_cases a <;> rfl) y

theorem block_7 : Region0.iblk (at1 m) c 7 Region0.t₀ = arg m c main_arg7 := by
  refine funext fun y => ?_
  blk_simp [Region0.iblk]
  refine Eq.trans (congrArg (at1 m c main_arg7) (funext fun a => Fin.ext ?_)) (congrFun (V1_of m c main_arg7 (by decide)) y)
  exact (cfg0.win 7).rect_emb_val_of_index_zero Region0.t₀ a (by fin_cases a <;> rfl) y

theorem block_8 : Region0.iblk (at1 m) c 8 Region0.t₀ = at1 m c main_v3 := by
  refine funext fun y => ?_
  blk_simp [Region0.iblk]
  refine congrArg (at1 m c main_v3) (funext fun a => Fin.ext ?_)
  exact (cfg0.win 8).rect_emb_val_of_index_zero Region0.t₀ a (by fin_cases a <;> rfl) y

/-- The grid point of a number below sixteen. -/
abbrev pt (i : Fin 16) : Fin cfg0.N := ⟨i.val, Nat.lt_of_lt_of_eq i.isLt N_0.symm⟩

/-- The rows of `x` the first call reads at a point. -/
theorem block_0 (i : Fin 16) (r : Fin 256) (b : Fin 2) (k : Fin 1024) :
    Region0.iblk (at1 m) c 0 (pt i) (ix3 r b k : S256x2x1024.Idx) = arg m c main_arg0 (ix3 (⟨i.val * 256 + r.val, by omega⟩ : Fin 4096) b k) := by
  blk_simp [Region0.iblk]
  refine Eq.trans (congrArg (at1 m c main_arg0) (funext fun a => Fin.ext ?_)) (congrFun (V1_of m c main_arg0 (by decide)) _)
  have e : ∀ t : Fin cfg0.N, (cfg0.win 0).index t = ![t.val, 0, 0] := by decide +kernel
  refine ((cfg0.win 0).rect_emb_val (pt i) _ a).trans ?_
  rw [e (pt i)]
  match a with
  | ⟨0, _⟩ => rfl
  | ⟨1, _⟩ => show 0 * 2 + b.val = b.val; omega
  | ⟨2, _⟩ => show 0 * 1024 + k.val = k.val; omega

/-- Batch element 0's rows, as the first call leaves them. -/
theorem W2_rows0 (n : Fin 4096) (k : Fin 1024) : W2 m c main_v4_1 (ix2 n k : S4096x1024.Idx) = arg m c main_arg0 (ix3 n (0 : Fin 2) k) := by
  suffices h : W2 m c main_v4_1 = fun y : S4096x1024.Idx => arg m c main_arg0 (ix3 (y 0 : Fin 4096) (0 : Fin 2) (y 1 : Fin 1024)) from congrFun h _
  refine (W2_arr m c 10).trans ?_
  refine (D0 m c).arrAt_eq_of_covers 10 _ (by decide +kernel) fun t hf y => ?_
  blk_simp
  rw [Region0.after_10]
  obtain ⟨i, rfl⟩ : ∃ i : Fin 16, t = pt i := ⟨⟨t.val, Nat.lt_of_lt_of_eq t.isLt N_0⟩, rfl⟩
  obtain ⟨r, k, rfl⟩ : ∃ (r : Fin 256) (k : Fin 1024), y = (ix2 r k : S256x1024.Idx) := ⟨y 0, y 1, (ix2_eta y).symm⟩
  refine (Values.rows0_apply _ r k).trans ((block_0 m c i r 0 k).trans ?_)
  have e : ∀ t : Fin cfg0.N, win0_10.index t = ![t.val, 0] := by decide +kernel
  have h0 : ((win0_10.blk (pt i)).view.emb (ix2 r k : S256x1024.Idx) 0 : Nat) = i.val * 256 + r.val := by blk_simp [e]
  have h1 : ((win0_10.blk (pt i)).view.emb (ix2 r k : S256x1024.Idx) 1 : Nat) = k.val := by blk_simp [e]
  exact congrArg₂ (fun (p : Fin 4096) (q : Fin 1024) => arg m c main_arg0 (ix3 p (0 : Fin 2) q)) (Fin.ext h0.symm) (Fin.ext h1.symm)

/-- Batch element 1's rows, as the first call leaves them. -/
theorem W2_rows1 (n : Fin 4096) (k : Fin 1024) : W2 m c main_v4_2 (ix2 n k : S4096x1024.Idx) = arg m c main_arg0 (ix3 n (1 : Fin 2) k) := by
  suffices h : W2 m c main_v4_2 = fun y : S4096x1024.Idx => arg m c main_arg0 (ix3 (y 0 : Fin 4096) (1 : Fin 2) (y 1 : Fin 1024)) from congrFun h _
  refine (W2_arr m c 11).trans ?_
  refine (D0 m c).arrAt_eq_of_covers 11 _ (by decide +kernel) fun t hf y => ?_
  blk_simp
  rw [Region0.after_11]
  obtain ⟨i, rfl⟩ : ∃ i : Fin 16, t = pt i := ⟨⟨t.val, Nat.lt_of_lt_of_eq t.isLt N_0⟩, rfl⟩
  obtain ⟨r, k, rfl⟩ : ∃ (r : Fin 256) (k : Fin 1024), y = (ix2 r k : S256x1024.Idx) := ⟨y 0, y 1, (ix2_eta y).symm⟩
  refine (Values.rows1_apply _ r k).trans ((block_0 m c i r 1 k).trans ?_)
  have e : ∀ t : Fin cfg0.N, win0_11.index t = ![t.val, 0] := by decide +kernel
  have h0 : ((win0_11.blk (pt i)).view.emb (ix2 r k : S256x1024.Idx) 0 : Nat) = i.val * 256 + r.val := by blk_simp [e]
  have h1 : ((win0_11.blk (pt i)).view.emb (ix2 r k : S256x1024.Idx) 1 : Nat) = k.val := by blk_simp [e]
  exact congrArg₂ (fun (p : Fin 4096) (q : Fin 1024) => arg m c main_arg0 (ix3 p (1 : Fin 2) q)) (Fin.ext h0.symm) (Fin.ext h1.symm)

/-- The packed weights, as the first call leaves them. -/
theorem W2_packed : W2 m c main_v4_3 = Region0.packed (at1 m) c := by
  refine (W2_arr m c 12).trans ?_
  refine (D0 m c).arrAt_eq_of_covers 12 _ (by decide +kernel) fun t hf y => ?_
  blk_simp
  rw [Region0.after_12]
  refine congrArg (Region0.packed (at1 m) c) (funext fun a => Fin.ext ?_)
  exact ((cfg0.win 12).rect_emb_val_of_index_zero t a (by fin_cases a <;> rfl) y).symm

end Cert.KernelIdeal.Launch

end
-- ==== Proof.Values.Gather.lean ====
/- The rows the reference gathers: where an index names one of the sixteen blocks, block `i` of the permuted rows is the block
   the index names. -/
module

public import proofs.«01_k».proof.Proof.ReferenceIdeal.Stages
public import Idealize.ShloMosaic.Lib.Pointwise
public import Idealize.ShloMosaic.Lib.ReduceAll

@[expose] public section

set_option maxRecDepth 16384

noncomputable section

namespace Cert.Values

open Idealize.ShloMosaic
open Cert.ReferenceIdeal

/-- An index that names a block is not moved. -/
theorem wrapped_apply (p : IVec S2x16 32) (b : Fin 2) (i k : Fin 16) (h : p (ix2 b i) = BitVec.ofNat 32 k.val) :
    Stages.wrapped p (ix3 b i (0 : Fin 1)) = BitVec.ofNat 32 k.val := by
  pointwise [Stages.wrapped]
  rw [h]
  clear h
  revert k; decide

/-- Where all indices name blocks, all are in range. -/
theorem inRange_apply (q : IVec S2x16x1 32) (h : ∀ (b : Fin 2) (i : Fin 16), ∃ k : Fin 16, q (ix3 b i (0 : Fin 1)) = BitVec.ofNat 32 k.val) (j : S2x16.Idx) :
    Stages.inRange q j = 1#1 := by
  unfold Stages.inRange
  refine Host.reduce_andi_one _ _ _ _ _ rfl fun y => ?_
  obtain ⟨k, hk⟩ := h (y 0) (y 1)
  have hy : y = ix3 (y 0) (y 1) (0 : Fin 1) := by
    funext a
    match a with
    | ⟨0, _⟩ => rfl
    | ⟨1, _⟩ => rfl
    | ⟨2, _⟩ => exact Subsingleton.elim (α := Fin 1) _ _
  show IntOp.andi (IntOp.cmpi .sge (q y) 0#32) (IntOp.cmpi .sle (q y) 15#32) = 1#1
  have hk' : q y = BitVec.ofNat 32 k.val := (congrArg q hy).trans hk
  rw [hk']
  clear hk hk'
  revert k; decide

/-- The gather's dimension numbers. -/
abbrev G : GatherDims S2x16x256x1024 S2x16x1 S2x16x256x1024 := gather_S2x16x256x1024_S2x16x1_S2x16x256x1024_23_1_0_0_1_2_112561024

/-- The gather at an index that names a block. -/
theorem gather_apply (y : FVec Ideal S2x16x256x1024 .f32) (q : IVec S2x16x1 32) (b : Fin 2) (i k : Fin 16) (r : Fin 256) (c : Fin 1024)
    (h : q (ix3 b i (0 : Fin 1)) = BitVec.ofNat 32 k.val) :
    Host.gather gather_S2x16x256x1024_S2x16x1_S2x16x256x1024_23_1_0_0_1_2_112561024 y q (ix4 b i r c) = y (ix4 b k r c) := by
  unfold Host.gather
  congr 1
  funext a
  refine Fin.ext ?_
  show G.start (ix4 b i r c) q a + G.batchCoord (ix4 b i r c) a + G.offCoord (ix4 b i r c) a = _
  have ha : a = (0 : Fin 4) ∨ a = (1 : Fin 4) ∨ a = (2 : Fin 4) ∨ a = (3 : Fin 4) := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases ha with rfl | rfl | rfl | rfl
  · rw [GatherDims.start_batching _ _ _ _ (by decide), GatherDims.offCoord_eq_zero _ _ _ (by decide)]
    simp only [Nat.zero_add, Nat.add_zero]
    unfold GatherDims.batchCoord
    rw [dif_pos (show (0 : Fin 4) ∈ G.operandBatchingDims by decide)]
    rfl
  · rw [GatherDims.batchCoord_eq_zero _ _ _ (by decide), GatherDims.offCoord_eq_zero _ _ _ (by decide)]
    simp only [Nat.add_zero]
    unfold GatherDims.start
    rw [dif_pos (show (1 : Fin 4) ∈ G.startIndexMap by decide)]
    have hsi : G.siIdx (ix4 b i r c) ⟨List.idxOf (1 : Fin 4) G.startIndexMap, List.idxOf_lt_length_iff.2 (by decide)⟩
        = ix3 b i (0 : Fin 1) := by
      funext a; refine Fin.ext ?_
      match a with
      | ⟨0, _⟩ => rfl
      | ⟨1, _⟩ => rfl
      | ⟨2, _⟩ => rfl
    rw [hsi, h]
    show min (BitVec.ofNat 32 k.val).toInt.toNat 15 = k.val
    clear h hsi
    revert k; decide
  · rw [GatherDims.batchCoord_eq_zero _ _ _ (by decide)]
    unfold GatherDims.start GatherDims.offCoord
    rw [dif_neg (show (2 : Fin 4) ∉ G.startIndexMap by decide), dif_pos (show (2 : Fin 4) ∈ G.sKept by decide)]
    simp only [Nat.zero_add, Nat.add_zero]
    rfl
  · rw [GatherDims.batchCoord_eq_zero _ _ _ (by decide)]
    unfold GatherDims.start GatherDims.offCoord
    rw [dif_neg (show (3 : Fin 4) ∉ G.startIndexMap by decide), dif_pos (show (3 : Fin 4) ∈ G.sKept by decide)]
    simp only [Nat.zero_add, Nat.add_zero]
    rfl

/-- Block `i` of the permuted rows is the block its index names. -/
theorem permuted_apply (x : FVec Ideal S4096x2x1024 .f32) (p : IVec S2x16 32) (h : ∀ (b : Fin 2) (i : Fin 16), ∃ k : Fin 16, p (ix2 b i) = BitVec.ofNat 32 k.val)
    (b : Fin 2) (i k : Fin 16) (hk : p (ix2 b i) = BitVec.ofNat 32 k.val) (r : Fin 256) (c : Fin 1024) :
    Stages.permuted x p (ix3 ⟨i.val * 256 + r.val, by omega⟩ b c) = x (ix3 ⟨k.val * 256 + r.val, by omega⟩ b c) := by
  pointwise [Stages.permuted, Stages.unblocked, Stages.taken]
  rw [inRange_apply _ (fun b i => (h b i).imp fun k hk => wrapped_apply p b i k hk), gather_apply _ _ b i k r c (wrapped_apply p b i k hk)]
  pointwise [Stages.blocks]

end Cert.Values

end
-- ==== Proof.Values.Table.lean ====
/- The table the attention call reads its blocks by, entry by entry the reference's permutation. -/
module

public import proofs.«01_k».proof.Proof.Values.Inputs
public import proofs.«01_k».proof.Proof.Values.Gather

@[expose] public section

set_option maxRecDepth 16384

noncomputable section

namespace Cert.Values

open Idealize.ShloMosaic Idealize.ShloMosaic.TcCoe
open Cert.KernelIdeal Cert.ReferenceIdeal
open Cert.KernelIdeal.Launch

variable (m : (ℓ : Loc KernelIdeal.nD KernelIdeal.τ KernelIdeal.sig) → Buf (Elt Ideal) ℓ) (c : Dev KernelIdeal.nD)

/-- One batch element's column of the permutation call's result, from rows of means that are the reference's. -/
theorem column_agree (b : Fin 2) (xm : FVec Ideal KernelIdeal.S16x1024 .f32) (X : FVec Ideal ReferenceIdeal.S4096x2x1024 .f32)
    (Wq Wk : FVec Ideal KernelIdeal.S1024x1024 .f32) (bq1 bk1 : FVec Ideal KernelIdeal.S1x1024 .f32) (bq2 bk2 : FVec Ideal ReferenceIdeal.S1024 .f32)
    (h : ∀ (i : Fin 16) (k : Fin 1024), xm (ix2 i k) = Stages.means X (ix3 b i k))
    (hq : ∀ k : Fin 1024, bq1 (ix2 0 k) = bq2 (ix1 k)) (hk : ∀ k : Fin 1024, bk1 (ix2 0 k) = bk2 (ix1 k)) (i : Fin 16) :
    ∃ k : Fin 16, Perm.column (F := Ideal) xm Wq bq1 Wk bk1 (ix2 i (0 : Fin 1)) = BitVec.ofNat 32 k.val ∧ Stages.perm X Wq bq2 Wk bk2 (ix2 b i) = BitVec.ofNat 32 k.val :=
  pick_agree (step_agree (step_agree (step_agree (step_agree (step_agree (logits_agree b xm (Stages.means X) Wq Wk bq1 bk1 bq2 bk2 h hq hk)))))) i

/-- The rows of means. -/
theorem xsum_apply (b : Fin 2) (i : Fin 16) (k : Fin 1024) :
    Region0.xsum (at1 m) c (ix2 i (⟨b.val * 1024 + k.val, by omega⟩ : Fin 2048) : KernelIdeal.S16x2048.Idx) = Stages.means (F := Ideal) (arg m c KernelIdeal.main_arg0) (ix3 b i k) :=
  meanRow_agree _ _ i (fun r b k => block_0 m c i r b k) b k

/-- An entry of the permutation call's result. -/
theorem perm_apply (b : Fin 2) (i : Fin 16) :
    ∃ k : Fin 16, Region0.perm (at1 m) c (ix2 i b : KernelIdeal.S16x2.Idx) = BitVec.ofNat 32 k.val
      ∧ Stages.perm (F := Ideal) (arg m c KernelIdeal.main_arg0) (arg m c KernelIdeal.main_arg1) (arg m c KernelIdeal.main_arg2) (arg m c KernelIdeal.main_arg3) (arg m c KernelIdeal.main_arg4) (ix2 b i)
        = BitVec.ofNat 32 k.val := by
  have hq : ∀ k : Fin 1024, at1 m c KernelIdeal.main_v0 (ix2 (0 : Fin 1) k : KernelIdeal.S1x1024.Idx) = arg m c KernelIdeal.main_arg2 (ix1 k : KernelIdeal.S1024.Idx) :=
    fun k => (congrFun (at1_v0 m c) _).trans (bias_row _ k)
  have hk : ∀ k : Fin 1024, at1 m c KernelIdeal.main_v1 (ix2 (0 : Fin 1) k : KernelIdeal.S1x1024.Idx) = arg m c KernelIdeal.main_arg4 (ix1 k : KernelIdeal.S1024.Idx) :=
    fun k => (congrFun (at1_v1 m c) _).trans (bias_row _ k)
  unfold Region0.perm
  rw [block_1, block_2, block_3, block_4]
  match b with
  | ⟨0, _⟩ =>
    obtain ⟨k, h1, h2⟩ := column_agree 0 (View.ld (Region0.xsum (at1 m) c) (Rect.unit (s := KernelIdeal.S16x2048) ![0, 0] KernelIdeal.S16x1024.size KernelIdeal.Gen.inb_S16x2048_S16x1024_0_0)) _ _ _ _ _ _ _
      (fun i k => (congrArg (Region0.xsum (at1 m) c) (Rect.emb_eq_of_coords _ _ (ix2 i (⟨0 * 1024 + k.val, by omega⟩ : Fin 2048)) fun a => by
        match a with
        | ⟨0, _⟩ => show i.val = 0 + 1 * i.val; omega
        | ⟨1, _⟩ => show 0 * 1024 + k.val = 0 + 1 * k.val; omega)).trans (xsum_apply m c 0 i k)) hq hk i
    exact ⟨k, (Perm.perm_left _ _ _ _ _ _ rfl).trans h1, h2⟩
  | ⟨1, _⟩ =>
    obtain ⟨k, h1, h2⟩ := column_agree 1 (View.ld (Region0.xsum (at1 m) c) (Rect.unit (s := KernelIdeal.S16x2048) ![0, 1024] KernelIdeal.S16x1024.size KernelIdeal.Gen.inb_S16x2048_S16x1024_0_1024)) _ _ _ _ _ _ _
      (fun i k => (congrArg (Region0.xsum (at1 m) c) (Rect.emb_eq_of_coords _ _ (ix2 i (⟨1 * 1024 + k.val, by omega⟩ : Fin 2048)) fun a => by
        match a with
        | ⟨0, _⟩ => show i.val = 0 + 1 * i.val; omega
        | ⟨1, _⟩ => show 1 * 1024 + k.val = 1024 + 1 * k.val; omega)).trans (xsum_apply m c 1 i k)) hq hk i
    exact ⟨k, (Perm.perm_right _ _ _ _ _ _ rfl).trans h1, h2⟩

/-- The clip leaves a number below sixteen. -/
theorem clip_small (k : Fin 16) : IntOp.minsi (BitVec.ofNat 32 k.val) 15#32 = BitVec.ofNat 32 k.val := by
  revert k; decide

/-- An entry of the table. -/
theorem table_apply (b : Fin 2) (i : Fin 16) :
    ∃ k : Fin 16, W3 m c KernelIdeal.main_v6 (ix2 i b : KernelIdeal.S16x2.Idx) = BitVec.ofNat 32 k.val
      ∧ Stages.perm (F := Ideal) (arg m c KernelIdeal.main_arg0) (arg m c KernelIdeal.main_arg1) (arg m c KernelIdeal.main_arg2) (arg m c KernelIdeal.main_arg3) (arg m c KernelIdeal.main_arg4) (ix2 b i)
        = BitVec.ofNat 32 k.val := by
  obtain ⟨k, h1, h2⟩ := perm_apply m c b i
  refine ⟨k, ?_, h2⟩
  rw [W3_table, W2_perm]
  show IntOp.minsi (Region0.perm (at1 m) c (ix2 i b : KernelIdeal.S16x2.Idx)) 15#32 = _
  rw [h1, clip_small]

/-- The packed weights hold the arguments. -/
theorem packs_q : PacksEighth (Attn.wq (W2 m c KernelIdeal.main_v4_3)) (arg m c KernelIdeal.main_arg1) (arg m c KernelIdeal.main_arg2) := by
  rw [W2_packed, Region0.packed, slice_q, block_1, block_2]
  exact packQ_packs fun k => (congrFun (at1_v0 m c) _).trans (bias_row _ k)
@[inherit_doc packs_q] theorem packs_k : Packs (Attn.wk (W2 m c KernelIdeal.main_v4_3)) (arg m c KernelIdeal.main_arg3) (arg m c KernelIdeal.main_arg4) := by
  rw [W2_packed, Region0.packed, slice_k, block_3, block_4]
  exact packP_packs fun k => (congrFun (at1_v1 m c) _).trans (bias_row _ k)
@[inherit_doc packs_q] theorem packs_v : Packs (Attn.wv (W2 m c KernelIdeal.main_v4_3)) (arg m c KernelIdeal.main_arg5) (arg m c KernelIdeal.main_arg6) := by
  rw [W2_packed, Region0.packed, slice_v, block_5, block_6]
  exact packP_packs fun k => (congrFun (at1_v2 m c) _).trans (bias_row _ k)
@[inherit_doc packs_q] theorem packs_o : Packs (Attn.wo (W2 m c KernelIdeal.main_v4_3)) (arg m c KernelIdeal.main_arg7) (arg m c KernelIdeal.main_arg8) := by
  rw [W2_packed, Region0.packed, slice_o, block_7, block_8]
  exact packP_packs fun k => (congrFun (at1_v3 m c) _).trans (bias_row _ k)

end Cert.Values

end
-- ==== Proof.Values.Output.lean ====
/- The attention call's array, index by index the reference's result. -/
module

public import proofs.«01_k».proof.Proof.Values.Table

@[expose] public section

set_option maxRecDepth 16384

noncomputable section

namespace Cert.Values

open Idealize.ShloMosaic Idealize.ShloMosaic.TcCoe Idealize.ShloMosaic.Tactic
open Cert.KernelIdeal Cert.ReferenceIdeal
open Cert.KernelIdeal.Launch
open Idealize.ShloMosaic.Pipeline (Dat)

/-! ## The attention call's schedule -/

section Schedule

variable (a : (KernelIdeal.pcfg1 (F := Ideal)).Adm)

/-- The grid point of a number below sixteen. -/
abbrev pt1 (i : Fin 16) : Fin (KernelIdeal.cfg1 a).N := ⟨i.val, i.isLt⟩

/-- A point's output block is the point's own. -/
theorem transform_3 : ∀ t : Fin KernelIdeal.grid1.N, KernelIdeal.cc1_transform_3 (KernelIdeal.grid1.coords t) = ![t.val, 0, 0] := by decide +kernel

@[inherit_doc transform_3] theorem index_3 (i : Fin 16) : ((KernelIdeal.cfg1 a).win 3).index (pt1 a i) = ![i.val, 0, 0] := transform_3 (pt1 a i)

/-- Every point's output block is written back: the next point's is another. -/
theorem flush_3 (i : Fin 16) : ((KernelIdeal.cfg1 a).win 3).flush (pt1 a i) = true := by
  unfold Pipeline.Window.flush
  refine Bool.and_eq_true_iff.2 ⟨rfl, Bool.or_eq_true_iff.2 ?_⟩
  by_cases h : i.val = 15
  · left
    exact decide_eq_true (by show i.val + 1 = 16; omega)
  · right
    refine decide_eq_true ⟨(by show i.val + 1 < 16; omega), fun e => ?_⟩
    have e' := (index_3 a ⟨i.val + 1, by omega⟩).symm.trans (e.trans (index_3 a i))
    exact absurd (congrFun e' 0) (by show i.val + 1 ≠ i.val; omega)

/-- The sixteen output blocks cover the result. -/
theorem covers_3 : ((KernelIdeal.cfg1 a).win 3).Covers := by
  refine ⟨fun b => ?_, fun β => ?_⟩
  · match b with
    | ⟨0, _⟩ => exact (by decide : 0 < 256)
    | ⟨1, _⟩ => exact (by decide : 0 < 2)
    | ⟨2, _⟩ => exact (by decide : 0 < 1024)
  · have h0 : (β (0 : Fin 3)).val < 16 := Nat.lt_of_lt_of_eq (β (0 : Fin 3)).isLt (by show (4096 + 256 - 1) / 256 = 16; rfl)
    have h1 : (β (1 : Fin 3)).val < 1 := Nat.lt_of_lt_of_eq (β (1 : Fin 3)).isLt (by show (2 + 2 - 1) / 2 = 1; rfl)
    have h2 : (β (2 : Fin 3)).val < 1 := Nat.lt_of_lt_of_eq (β (2 : Fin 3)).isLt (by show (1024 + 1024 - 1) / 1024 = 1; rfl)
    refine ⟨pt1 a ⟨_, h0⟩, flush_3 a _, fun b => ⟨?_, .inl rfl⟩⟩
    rw [index_3]
    match b with
    | ⟨0, _⟩ => rfl
    | ⟨1, _⟩ => exact (Nat.lt_one_iff.1 h1).symm
    | ⟨2, _⟩ => exact (Nat.lt_one_iff.1 h2).symm

/-- A point reads its own row of the table, column 0 and column 1. -/
theorem off1 : ∀ t : Fin KernelIdeal.grid1.N, KernelIdeal.k1_off1 (KernelIdeal.grid1.coords t) = ![t.val, 0] := by decide +kernel
@[inherit_doc off1] theorem off2 : ∀ t : Fin KernelIdeal.grid1.N, KernelIdeal.k1_off2 (KernelIdeal.grid1.coords t) = ![t.val, 1] := by decide +kernel

/-- The table entry a point's first block is read at. -/
theorem index_0 (i : Fin 16) : ((KernelIdeal.cfg1 a).win 0).index (pt1 a i) = ![(a.1 0 (ix2 i (0 : Fin 2) : KernelIdeal.S16x2.Idx) : BitVec 32).toNat, 0] := by
  have e : (Rect.unit (s := KernelIdeal.S16x2) (KernelIdeal.k1_off1 (KernelIdeal.grid1.coords (pt1 a i))) KernelIdeal.S1x1.size (KernelIdeal.Gen.k1_off1_inb _)).emb
      (Shape.Idx.first Nat.one_pos) = (ix2 i (0 : Fin 2) : KernelIdeal.S16x2.Idx) := Rect.emb_eq_of_coords _ _ _ fun b => by
    have := congrFun (off1 (pt1 a i)) b
    match b with
    | ⟨0, _⟩ => exact (congrArg (· + 1 * 0) this).symm
    | ⟨1, _⟩ => exact (congrArg (· + 1 * 0) this).symm
  exact congrArg (fun x : KernelIdeal.S16x2.Idx => ![(a.1 0 x : BitVec 32).toNat, 0]) e

/-- The table entry its second block is read at. -/
theorem index_1 (i : Fin 16) : ((KernelIdeal.cfg1 a).win 1).index (pt1 a i) = ![(a.1 0 (ix2 i (1 : Fin 2) : KernelIdeal.S16x2.Idx) : BitVec 32).toNat, 0] := by
  have e : (Rect.unit (s := KernelIdeal.S16x2) (KernelIdeal.k1_off2 (KernelIdeal.grid1.coords (pt1 a i))) KernelIdeal.S1x1.size (KernelIdeal.Gen.k1_off2_inb _)).emb
      (Shape.Idx.first Nat.one_pos) = (ix2 i (1 : Fin 2) : KernelIdeal.S16x2.Idx) := Rect.emb_eq_of_coords _ _ _ fun b => by
    have := congrFun (off2 (pt1 a i)) b
    match b with
    | ⟨0, _⟩ => exact (congrArg (· + 1 * 0) this).symm
    | ⟨1, _⟩ => exact (congrArg (· + 1 * 0) this).symm
  exact congrArg (fun x : KernelIdeal.S16x2.Idx => ![(a.1 0 x : BitVec 32).toNat, 0]) e

end Schedule

/-! ## The attention call's blocks -/

variable (m : (ℓ : Loc KernelIdeal.nD KernelIdeal.τ KernelIdeal.sig) → Buf (Elt Ideal) ℓ)

/-- The reference's permutation, of the kernel's arguments. -/
abbrev permOf : IVec ReferenceIdeal.S2x16 32 :=
  Stages.perm (F := Ideal) (arg m 0 KernelIdeal.main_arg0) (arg m 0 KernelIdeal.main_arg1) (arg m 0 KernelIdeal.main_arg2) (arg m 0 KernelIdeal.main_arg3) (arg m 0 KernelIdeal.main_arg4)

/-- The reference's permuted rows, of the kernel's arguments. -/
abbrev rowsOf : FVec Ideal ReferenceIdeal.S4096x2x1024 .f32 := Stages.permuted (F := Ideal) (arg m 0 KernelIdeal.main_arg0) (permOf m)

/-- An entry of the permutation names one of the sixteen blocks. -/
theorem permOf_block (b : Fin 2) (i : Fin 16) : ∃ k : Fin 16, permOf m (ix2 b i) = BitVec.ofNat 32 k.val :=
  (table_apply m 0 b i).imp fun _ h => h.2

/-- Small numbers are what their 32-bit words say. -/
theorem toNat_small : ∀ k : Fin 16, (BitVec.ofNat 32 k.val).toNat = k.val := by decide

/-- The attention call's first block: the block of batch element 0's rows that the permutation puts there. -/
theorem block_rows0 (i : Fin 16) : Block (Region1.iblk (at3 m) (adm1 m) 0 0 (pt1 (adm1 m) i)) (rowsOf m) 0 i := by
  intro r c
  obtain ⟨k, h1, h2⟩ := table_apply m 0 0 i
  refine Eq.trans ?_ (permuted_apply _ _ (permOf_block m) 0 i k h2 r c).symm
  refine Eq.trans ?_ ((congrFun (W3_of m 0 KernelIdeal.main_v4_1 (by decide)) _).trans (W2_rows0 m 0 (⟨k.val * 256 + r.val, by omega⟩ : Fin 4096) c))
  blk_simp [Region1.iblk]
  refine congrArg (at3 m 0 KernelIdeal.main_v4_1) (funext fun b => Fin.ext ?_)
  refine (((KernelIdeal.cfg1 (adm1 m)).win 0).rect_emb_val (pt1 (adm1 m) i) _ b).trans ?_
  rw [index_0]
  have e : (((adm1 m).1 0 (ix2 i (0 : Fin 2) : KernelIdeal.S16x2.Idx) : BitVec 32)).toNat = k.val := (congrArg BitVec.toNat h1).trans (toNat_small k)
  match b with
  | ⟨0, _⟩ => exact congrArg (· * 256 + r.val) e
  | ⟨1, _⟩ => show 0 * 1024 + c.val = c.val; omega

/-- Its second block: the same of batch element 1. -/
theorem block_rows1 (i : Fin 16) : Block (Region1.iblk (at3 m) (adm1 m) 0 1 (pt1 (adm1 m) i)) (rowsOf m) 1 i := by
  intro r c
  obtain ⟨k, h1, h2⟩ := table_apply m 0 1 i
  refine Eq.trans ?_ (permuted_apply _ _ (permOf_block m) 1 i k h2 r c).symm
  refine Eq.trans ?_ ((congrFun (W3_of m 0 KernelIdeal.main_v4_2 (by decide)) _).trans (W2_rows1 m 0 (⟨k.val * 256 + r.val, by omega⟩ : Fin 4096) c))
  blk_simp [Region1.iblk]
  refine congrArg (at3 m 0 KernelIdeal.main_v4_2) (funext fun b => Fin.ext ?_)
  refine (((KernelIdeal.cfg1 (adm1 m)).win 1).rect_emb_val (pt1 (adm1 m) i) _ b).trans ?_
  rw [index_1]
  have e : (((adm1 m).1 0 (ix2 i (1 : Fin 2) : KernelIdeal.S16x2.Idx) : BitVec 32)).toNat = k.val := (congrArg BitVec.toNat h1).trans (toNat_small k)
  match b with
  | ⟨0, _⟩ => exact congrArg (· * 256 + r.val) e
  | ⟨1, _⟩ => show 0 * 1024 + c.val = c.val; omega

/-- Its third block: the packed weights, whole. -/
theorem block_weights (i : Fin 16) : Region1.iblk (at3 m) (adm1 m) 0 2 (pt1 (adm1 m) i) = W2 m 0 KernelIdeal.main_v4_3 := by
  refine funext fun y => ?_
  blk_simp [Region1.iblk]
  refine Eq.trans (congrArg (at3 m 0 KernelIdeal.main_v4_3) (funext fun b => Fin.ext ?_)) (congrFun (W3_of m 0 KernelIdeal.main_v4_3 (by decide)) y)
  exact ((KernelIdeal.cfg1 (adm1 m)).win 2).rect_emb_val_of_index_zero (pt1 (adm1 m) i) b (by fin_cases b <;> rfl) y

/-- The permuted rows are entries of the argument, so reals where it is. -/
theorem rowsOf_fin (h : AllFin (arg m 0 KernelIdeal.main_arg0 : FVec Ideal ReferenceIdeal.S4096x2x1024 .f32)) : AllFin (rowsOf m) := by
  intro j
  obtain ⟨n, b, c, rfl⟩ : ∃ (n : Fin 4096) (b : Fin 2) (c : Fin 1024), j = ix3 n b c := ⟨j 0, j 1, j 2, (ix3_eta j).symm⟩
  obtain ⟨i, r, rfl⟩ : ∃ (i : Fin 16) (r : Fin 256), n = ⟨i.val * 256 + r.val, by omega⟩ :=
    ⟨⟨n.val / 256, by omega⟩, ⟨n.val % 256, by omega⟩, Fin.ext (by show n.val = n.val / 256 * 256 + n.val % 256; omega)⟩
  obtain ⟨k, hk⟩ := permOf_block m b i
  exact (congrArg IsReal (permuted_apply _ _ (permOf_block m) b i k hk r c)).mpr (h _)

/-- The reference's result, of the kernel's arguments. -/
abbrev resultOf : FVec Ideal ReferenceIdeal.S4096x2x1024 .f32 :=
  Stages.result (F := Ideal) (arg m 0 KernelIdeal.main_arg0) (arg m 0 KernelIdeal.main_arg1) (arg m 0 KernelIdeal.main_arg2) (arg m 0 KernelIdeal.main_arg3) (arg m 0 KernelIdeal.main_arg4)
    (arg m 0 KernelIdeal.main_arg5) (arg m 0 KernelIdeal.main_arg6) (arg m 0 KernelIdeal.main_arg7) (arg m 0 KernelIdeal.main_arg8)

/-- The array the attention call leaves is the reference's result. -/
theorem output_eq (fx : AllFin (arg m 0 KernelIdeal.main_arg0 : FVec Ideal ReferenceIdeal.S4096x2x1024 .f32))
    (fq : AllFin (arg m 0 KernelIdeal.main_arg1 : FVec Ideal ReferenceIdeal.S1024x1024 .f32)) (fbq : AllFin (arg m 0 KernelIdeal.main_arg2 : FVec Ideal ReferenceIdeal.S1024 .f32))
    (fk : AllFin (arg m 0 KernelIdeal.main_arg3 : FVec Ideal ReferenceIdeal.S1024x1024 .f32)) (fbk : AllFin (arg m 0 KernelIdeal.main_arg4 : FVec Ideal ReferenceIdeal.S1024 .f32)) :
    (D1 m 0).arrAt 3 (KernelIdeal.cfg1 (adm1 m)).N = resultOf m := by
  refine (D1 m 0).arrAt_eq_of_covers 3 _ (covers_3 _) fun t hf y => ?_
  blk_simp
  rw [Region1.after_3]
  obtain ⟨i, rfl⟩ : ∃ i : Fin 16, t = pt1 (adm1 m) i := ⟨⟨t.val, t.isLt⟩, rfl⟩
  have coords : ∀ y : KernelIdeal.S256x2x1024.Idx, ∃ (r : Fin 256) (b : Fin 2) (c : Fin 1024), y = ix3 r b c := fun y => ⟨y 0, y 1, y 2, (ix3_eta y).symm⟩
  obtain ⟨r, b, c, rfl⟩ := coords y
  rw [block_weights]
  have fy := rowsOf_fin m fx
  refine (out_apply (block_block (block_rows0 m i) (packs_q m 0) (packs_k m 0) (packs_v m 0) fy fq fbq fk fbk)
    (block_block (block_rows1 m i) (packs_q m 0) (packs_k m 0) (packs_v m 0) fy fq fbq fk fbk) (packs_o m 0)).trans ?_
  refine congrArg (resultOf m) (funext fun a => Fin.ext ?_)
  refine Eq.symm ((((KernelIdeal.cfg1 (adm1 m)).win 3).rect_emb_val (pt1 (adm1 m) i) _ a).trans ?_)
  rw [index_3]
  match a with
  | ⟨0, _⟩ => rfl
  | ⟨1, _⟩ => show 0 * 2 + b.val = b.val; omega
  | ⟨2, _⟩ => show 0 * 1024 + c.val = c.val; omega

end Cert.Values

end
-- ==== Proof.Values.Finite.lean ====
/- What the precondition says: the entries of five arguments are reals. -/
module

public import proofs.«01_k».proof.Pre_finite_args
public import proofs.«01_k».proof.Proof.Values.Block

@[expose] public section

noncomputable section

namespace Cert.Values

open Idealize.ShloMosaic Idealize.ShloMosaic.TcCoe

/-- The precondition's shapes fit. -/
theorem preFacts : Cert.Pre_finite_args.Facts := ⟨by decide, by decide, by decide⟩

/-- A value whose absolute value is below infinity is a real. -/
theorem isReal_of_abs_lt {a : EReal} (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  have h' := max_lt_iff.1 ((Ideal.cmp_olt_eq_one _ _).1 h)
  induction a using EReal.rec with
  | bot => exact absurd h'.2 (by simp)
  | top => exact absurd h'.1 (by simp)
  | coe r => exact ⟨r, rfl⟩

/-- The predicate's comparison, of one array. -/
theorem allFin_of_compare {s : Shape} {x : FVec Ideal s .f32} {hb : (⟨0, ![]⟩ : Shape).BroadcastsInDim s (![] : Fin 0 → Fin s.rank)}
    (h : cmpf .olt (Host.absf x) (broadcastInDim s ![] hb (constant (⟨0, ![]⟩ : Shape) .f32 0x7F800000#32)) = fun _ => 1#1) : AllFin x :=
  fun j => isReal_of_abs_lt (congrFun h j)

end Cert.Values

end
-- ==== Proof.Values.Algebraic.lean ====
/- The value claim: from arguments that agree, finite where the precondition asks, the kernel and the reference end with one result. -/
module

public import proofs.«01_k».proof.Defs
public import proofs.«01_k».proof.Proof.KernelIdeal.Launch
public import proofs.«01_k».proof.Proof.Values.Output
public import proofs.«01_k».proof.Proof.Values.Finite

@[expose] public section

set_option maxRecDepth 16384

noncomputable section

namespace Cert.Values

open Idealize.ShloMosaic Idealize.ShloMosaic.TcCoe Idealize.SL.Sem

/-- The kernel's result, where the precondition holds. -/
theorem kernel_result (m : (ℓ : Loc KernelIdeal.nD KernelIdeal.τ KernelIdeal.sig) → Buf (Elt Ideal) ℓ)
    (h : Cert.Pre_KernelIdeal_finite_args (hPre_finite_args := preFacts) m) :
    (KernelIdeal.Launch.D1 m 0).arrAt 3 (KernelIdeal.cfg1 (KernelIdeal.Launch.adm1 m)).N = resultOf m := by
  obtain ⟨hx, hq, hbq, hk, hbk⟩ := h 0
  exact output_eq m (allFin_of_compare hx) (allFin_of_compare hq) (allFin_of_compare hbq) (allFin_of_compare hk) (allFin_of_compare hbk)

/-- The kernel at the reals ends with the reference's result. -/
theorem algebraic : Cert.algebraic_KernelIdeal_ReferenceIdeal_pre_finite_args (hPre_finite_args := preFacts) := by
  intro m g m' g' h hagree
  refine ⟨fun c => (KernelIdeal.Launch.D1 m c).arrAt 3 (KernelIdeal.cfg1 (KernelIdeal.Launch.adm1 m)).N, ?_, ?_⟩
  · exact (θ_run KernelIdeal.defs _ _).mono (fun _ h => h.1) (KernelIdeal.Launch.run (F := Ideal) m g)
  · refine (θ_run ReferenceIdeal.defs _ _).mono (fun r hr c => ⟨?_, (hr c).2⟩) (ReferenceIdeal.Value.run (F := Ideal) m' g')
    obtain rfl : c = 0 := Subsingleton.elim _ _
    obtain ⟨e0, e1, e2, e3, e4, e5, e6, e7, e8⟩ := hagree 0
    refine (hr 0).1.trans (((ReferenceIdeal.Value.val4_main_v187 _).symm.trans (ReferenceIdeal.Stages.res_v187 _)).trans (Eq.trans ?_ (kernel_result m h).symm))
    exact congr (congr (congr (congr (congr (congr (congr (congr (congrArg (ReferenceIdeal.Stages.result (F := Ideal)) e0) e1) e2) e3) e4) e5) e6) e7) e8

end Cert.Values

end
-- ==== Proof.lean ====
/- The certificate's claim, from its parts: the kernel's frame at bits and at the reals, the reference's frame, and the
   kernel's value at the reals against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Kernel.Launch
public import proofs.«01_k».proof.Proof.KernelIdeal.Launch
public import proofs.«01_k».proof.Proof.ReferenceIdeal.Run
public import proofs.«01_k».proof.Proof.Values.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at bits runs, keeps its arguments and leaves every counter at zero. -/
theorem kernel_frame : Cert.quiescent_Kernel := fun m g _ =>
  (θ_run Cert.Kernel.defs _ _).mono (fun _ h => ⟨fun c => (h.1 c).2, h.2⟩) (Cert.Kernel.Launch.run (F := Bits) m g)

/-- So does the kernel at the reals. -/
theorem kernelIdeal_frame : Cert.quiescent_KernelIdeal := fun m g _ =>
  (θ_run Cert.KernelIdeal.defs _ _).mono (fun _ h => ⟨fun c => (h.1 c).2, h.2⟩) (Cert.KernelIdeal.Launch.run (F := Ideal) m g)

/-- So does the reference, which has no counter. -/
theorem reference_frame : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Every part, in the claim's order; the two frames under the precondition are the frames without it. -/
theorem claim : Cert.Claim := ⟨Cert.Kernel.Gen.facts, Cert.KernelIdeal.Gen.facts, Cert.ReferenceIdeal.Gen.facts, Cert.Values.preFacts,
  kernel_frame, kernelIdeal_frame, fun m g _ => kernelIdeal_frame m g trivial, reference_frame, fun m g _ => reference_frame m g trivial,
  trivial, Cert.Values.algebraic⟩

end Cert.Proof

end
